-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x147456x4 : Shape := ⟨3, ![4, 147456, 4]⟩
abbrev S4x3x192x256 : Shape := ⟨4, ![4, 3, 192, 256]⟩
abbrev S4x12x192x256 : Shape := ⟨4, ![4, 12, 192, 256]⟩
abbrev S4x3x49152 : Shape := ⟨3, ![4, 3, 49152]⟩
abbrev S_ : Shape := ⟨0, ![]⟩
abbrev S4x3x2000 : Shape := ⟨3, ![4, 3, 2000]⟩
abbrev S3 : Shape := ⟨1, ![3]⟩
abbrev S1x3x1 : Shape := ⟨3, ![1, 3, 1]⟩
abbrev S4x6000 : Shape := ⟨2, ![4, 6000]⟩
abbrev S4x2000 : Shape := ⟨2, ![4, 2000]⟩
abbrev S4x2000x1 : Shape := ⟨3, ![4, 2000, 1]⟩
abbrev S4 : Shape := ⟨1, ![4]⟩
abbrev S1x1x4 : Shape := ⟨3, ![1, 1, 4]⟩
abbrev S4x2000x4 : Shape := ⟨3, ![4, 2000, 4]⟩
abbrev S4x589824 : Shape := ⟨2, ![4, 589824]⟩
abbrev S4x8000 : Shape := ⟨2, ![4, 8000]⟩
abbrev S4x8000x1 : Shape := ⟨3, ![4, 8000, 1]⟩
abbrev S1 : Shape := ⟨1, ![1]⟩
abbrev S1x1x1 : Shape := ⟨3, ![1, 1, 1]⟩
abbrev S4x2048 : Shape := ⟨2, ![4, 2048]⟩
abbrev S4x1x2048 : Shape := ⟨3, ![4, 1, 2048]⟩
abbrev S4x2048x4 : Shape := ⟨3, ![4, 2048, 4]⟩
abbrev S4x4x2048 : Shape := ⟨3, ![4, 4, 2048]⟩
abbrev S4x16x128x4 : Shape := ⟨4, ![4, 16, 128, 4]⟩
abbrev S4x4x128x16 : Shape := ⟨4, ![4, 4, 128, 16]⟩
abbrev S1x1x2048 : Shape := ⟨3, ![1, 1, 2048]⟩
abbrev S1x4x2048 : Shape := ⟨3, ![1, 4, 2048]⟩
abbrev S1x4x128x16 : Shape := ⟨4, ![1, 4, 128, 16]⟩
abbrev S1x2048 : Shape := ⟨2, ![1, 2048]⟩
abbrev S4x128x16 : Shape := ⟨3, ![4, 128, 16]⟩
abbrev S1x128x16 : Shape := ⟨3, ![1, 128, 16]⟩
abbrev S128x16 : Shape := ⟨2, ![128, 16]⟩
abbrev S1x128 : Shape := ⟨2, ![1, 128]⟩
abbrev S128x128 : Shape := ⟨2, ![128, 128]⟩
abbrev S1x1x128 : Shape := ⟨3, ![1, 1, 128]⟩
abbrev S1x1 : Shape := ⟨2, ![1, 1]⟩
abbrev S128 : Shape := ⟨1, ![128]⟩
abbrev S128x1 : Shape := ⟨2, ![128, 1]⟩
abbrev S128x2048 : Shape := ⟨2, ![128, 2048]⟩
abbrev S2048 : Shape := ⟨1, ![2048]⟩
abbrev S1x1920 : Shape := ⟨2, ![1, 1920]⟩
abbrev S1x1792 : Shape := ⟨2, ![1, 1792]⟩
abbrev S1x256 : Shape := ⟨2, ![1, 256]⟩
abbrev S1x1664 : Shape := ⟨2, ![1, 1664]⟩
abbrev S1x384 : Shape := ⟨2, ![1, 384]⟩
abbrev S1x1536 : Shape := ⟨2, ![1, 1536]⟩
abbrev S1x512 : Shape := ⟨2, ![1, 512]⟩
abbrev S1x1408 : Shape := ⟨2, ![1, 1408]⟩
abbrev S1x640 : Shape := ⟨2, ![1, 640]⟩
abbrev S1x1280 : Shape := ⟨2, ![1, 1280]⟩
abbrev S1x768 : Shape := ⟨2, ![1, 768]⟩
abbrev S1x1152 : Shape := ⟨2, ![1, 1152]⟩
abbrev S1x896 : Shape := ⟨2, ![1, 896]⟩
abbrev S1x1024 : Shape := ⟨2, ![1, 1024]⟩
abbrev S4x1000 : Shape := ⟨2, ![4, 1000]⟩
abbrev S4x1000x1 : Shape := ⟨3, ![4, 1000, 1]⟩
abbrev S4x1000x4 : Shape := ⟨3, ![4, 1000, 4]⟩

abbrev nBuf : Space → Nat
  | .hbm => 192
  | .vmem => 14
  | .smem => 0
  | _ => 0

abbrev hbmTy0_0 (i : Nat) : BufTy := match i % 128 with
  | 0 => ⟨S4x147456x4, .f32⟩
  | 1 => ⟨S4x3x192x256, .f32⟩
  | 2 => ⟨S4x12x192x256, .f32⟩
  | 3 => ⟨S4x3x49152, .f32⟩
  | 4 => ⟨S4x3x49152, .f32⟩
  | 5 => ⟨S4x3x49152, .f32⟩
  | 6 => ⟨S_, .f32⟩
  | 7 => ⟨S4x3x49152, .f32⟩
  | 8 => ⟨S4x3x49152, .f32⟩
  | 9 => ⟨S_, .f32⟩
  | 10 => ⟨S4x3x49152, .f32⟩
  | 11 => ⟨S4x3x49152, .f32⟩
  | 12 => ⟨S4x3x2000, .f32⟩
  | 13 => ⟨S4x3x2000, .i32⟩
  | 14 => ⟨S_, .i32⟩
  | 15 => ⟨S4x3x2000, .i32⟩
  | 16 => ⟨S4x3x2000, .i32⟩
  | 17 => ⟨S3, .i32⟩
  | 18 => ⟨S1x3x1, .i32⟩
  | 19 => ⟨S4x3x2000, .i32⟩
  | 20 => ⟨S4x3x2000, .i32⟩
  | 21 => ⟨S4x6000, .f32⟩
  | 22 => ⟨S4x6000, .i32⟩
  | 23 => ⟨S4x6000, .f32⟩
  | 24 => ⟨S4x6000, .f32⟩
  | 25 => ⟨S4x6000, .i32⟩
  | 26 => ⟨S4x2000, .f32⟩
  | 27 => ⟨S4x2000, .f32⟩
  | 28 => ⟨S4x2000, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S4x2000, .i32⟩
  | 36 => ⟨S4x2000, .i32⟩
  | 37 => ⟨S_, .i32⟩
  | 38 => ⟨S4x2000, .i32⟩
  | 39 => ⟨S4x2000, .i1⟩
  | 40 => ⟨S_, .i32⟩
  | 41 => ⟨S4x2000, .i32⟩
  | 42 => ⟨S4x2000, .i1⟩
  | 43 => ⟨S_, .i32⟩
  | 44 => ⟨S_, .i1⟩
  | 45 => ⟨S4x2000, .i1⟩
  | 46 => ⟨S4x2000, .i1⟩
  | 47 => ⟨S4x2000, .i1⟩
  | 48 => ⟨S4x2000, .i32⟩
  | 49 => ⟨S4x2000, .i32⟩
  | 50 => ⟨S4x2000, .i32⟩
  | 51 => ⟨S_, .i32⟩
  | 52 => ⟨S_, .i32⟩
  | 53 => ⟨S4x2000, .i32⟩
  | 54 => ⟨S4x2000, .i32⟩
  | 55 => ⟨S4x2000, .i32⟩
  | 56 => ⟨S_, .i32⟩
  | 57 => ⟨S4x2000, .i32⟩
  | 58 => ⟨S4x2000, .i1⟩
  | 59 => ⟨S4x2000, .i32⟩
  | 60 => ⟨S4x2000, .i32⟩
  | 61 => ⟨S_, .i32⟩
  | 62 => ⟨S4x2000, .i32⟩
  | 63 => ⟨S4x2000, .i1⟩
  | 64 => ⟨S4x2000, .i1⟩
  | 65 => ⟨S_, .i32⟩
  | 66 => ⟨S4x2000, .i32⟩
  | 67 => ⟨S4x2000, .i32⟩
  | 68 => ⟨S4x2000, .i32⟩
  | 69 => ⟨S4x2000x1, .i32⟩
  | 70 => ⟨S_, .i32⟩
  | 71 => ⟨S4x2000x1, .i32⟩
  | 72 => ⟨S4x2000x1, .i32⟩
  | 73 => ⟨S4, .i32⟩
  | 74 => ⟨S1x1x4, .i32⟩
  | 75 => ⟨S4x2000x4, .i32⟩
  | 76 => ⟨S4x2000x4, .i32⟩
  | 77 => ⟨S4x2000x4, .i32⟩
  | 78 => ⟨S_, .i32⟩
  | 79 => ⟨S4x2000x4, .i32⟩
  | 80 => ⟨S4x2000x4, .i32⟩
  | 81 => ⟨S4x2000x1, .i32⟩
  | 82 => ⟨S4x2000x4, .i32⟩
  | 83 => ⟨S4x2000x4, .i32⟩
  | 84 => ⟨S4x589824, .f32⟩
  | 85 => ⟨S4x8000, .i32⟩
  | 86 => ⟨S_, .i32⟩
  | 87 => ⟨S4x8000, .i32⟩
  | 88 => ⟨S4x8000, .i1⟩
  | 89 => ⟨S_, .i32⟩
  | 90 => ⟨S4x8000, .i32⟩
  | 91 => ⟨S4x8000, .i32⟩
  | 92 => ⟨S4x8000, .i32⟩
  | 93 => ⟨S4x8000x1, .i32⟩
  | 94 => ⟨S1, .i32⟩
  | 95 => ⟨S_, .i32⟩
  | 96 => ⟨S4x8000x1, .i32⟩
  | 97 => ⟨S4x8000x1, .i1⟩
  | 98 => ⟨S1x1x1, .i32⟩
  | 99 => ⟨S4x8000x1, .i32⟩
  | 100 => ⟨S4x8000x1, .i1⟩
  | 101 => ⟨S4x8000x1, .i1⟩
  | 102 => ⟨S_, .i1⟩
  | 103 => ⟨S4x8000, .i1⟩
  | 104 => ⟨S4x8000, .f32⟩
  | 105 => ⟨S_, .f32⟩
  | 106 => ⟨S4x8000, .f32⟩
  | 107 => ⟨S4x8000, .f32⟩
  | 108 => ⟨S4x2000x4, .f32⟩
  | 109 => ⟨S4x2000x1, .i32⟩
  | 110 => ⟨S_, .i32⟩
  | 111 => ⟨S4x2000x1, .i32⟩
  | 112 => ⟨S4x2000x1, .i1⟩
  | 113 => ⟨S_, .i32⟩
  | 114 => ⟨S4x2000x1, .i32⟩
  | 115 => ⟨S4x2000x1, .i32⟩
  | 116 => ⟨S4x2000x1, .i32⟩
  | 117 => ⟨S1, .i32⟩
  | 118 => ⟨S_, .i32⟩
  | 119 => ⟨S4x2000x1, .i32⟩
  | 120 => ⟨S4x2000x1, .i1⟩
  | 121 => ⟨S1x1x1, .i32⟩
  | 122 => ⟨S4x2000x1, .i32⟩
  | 123 => ⟨S4x2000x1, .i1⟩
  | 124 => ⟨S4x2000x1, .i1⟩
  | 125 => ⟨S_, .i1⟩
  | 126 => ⟨S4x2000, .i1⟩
  | 127 => ⟨S4x2000x4, .f32⟩
  | _ => ⟨S4x147456x4, .f32⟩

abbrev hbmTy0_1 (i : Nat) : BufTy := match i % 128 with
  | 0 => ⟨S4x2000x4, .i1⟩
  | 1 => ⟨S_, .f32⟩
  | 2 => ⟨S4x2000x4, .f32⟩
  | 3 => ⟨S4x2000x4, .f32⟩
  | 4 => ⟨S_, .f32⟩
  | 5 => ⟨S_, .f32⟩
  | 6 => ⟨S4x2048, .f32⟩
  | 7 => ⟨S4x1x2048, .f32⟩
  | 8 => ⟨S_, .i32⟩
  | 9 => ⟨S_, .f32⟩
  | 10 => ⟨S4x2048x4, .f32⟩
  | 11 => ⟨S_, .i32⟩
  | 12 => ⟨S_, .f32⟩
  | 13 => ⟨S4x2048x4, .f32⟩
  | 14 => ⟨S4x4x2048, .f32⟩
  | 15 => ⟨S4x4x2048, .f32⟩
  | 16 => ⟨S4x16x128x4, .f32⟩
  | 17 => ⟨S4x4x128x16, .f32⟩
  | 18 => ⟨S4x16x128x4, .f32⟩
  | 19 => ⟨S4x4x128x16, .f32⟩
  | 20 => ⟨S4x1x2048, .f32⟩
  | 21 => ⟨S4x4x2048, .f32⟩
  | 22 => ⟨S4x2048, .f32⟩
  | 23 => ⟨S4x2000, .f32⟩
  | 24 => ⟨S4x2048x4, .f32⟩
  | 25 => ⟨S4x2000x4, .f32⟩
  | 26 => ⟨S4x1000, .f32⟩
  | 27 => ⟨S4x1000, .i32⟩
  | 28 => ⟨S4x1000x1, .i32⟩
  | 29 => ⟨S_, .i32⟩
  | 30 => ⟨S4x1000x1, .i32⟩
  | 31 => ⟨S4x1000x1, .i1⟩
  | 32 => ⟨S_, .i32⟩
  | 33 => ⟨S4x1000x1, .i32⟩
  | 34 => ⟨S4x1000x1, .i32⟩
  | 35 => ⟨S4x1000x1, .i32⟩
  | 36 => ⟨S1, .i32⟩
  | 37 => ⟨S_, .i32⟩
  | 38 => ⟨S4x1000x1, .i32⟩
  | 39 => ⟨S4x1000x1, .i1⟩
  | 40 => ⟨S1x1x1, .i32⟩
  | 41 => ⟨S4x1000x1, .i32⟩
  | 42 => ⟨S4x1000x1, .i1⟩
  | 43 => ⟨S4x1000x1, .i1⟩
  | 44 => ⟨S_, .i1⟩
  | 45 => ⟨S4x1000, .i1⟩
  | 46 => ⟨S4x1000x4, .f32⟩
  | 47 => ⟨S4x1000x4, .i1⟩
  | 48 => ⟨S_, .f32⟩
  | 49 => ⟨S4x1000x4, .f32⟩
  | 50 => ⟨S4x1000x4, .f32⟩
  | 51 => ⟨S_, .f32⟩
  | 52 => ⟨S4x1000, .f32⟩
  | 53 => ⟨S4x1000, .i1⟩
  | 54 => ⟨S4x1000x1, .i1⟩
  | 55 => ⟨S_, .f32⟩
  | 56 => ⟨S_, .f32⟩
  | 57 => ⟨S4x1000x4, .i1⟩
  | 58 => ⟨S4x1000x4, .f32⟩
  | 59 => ⟨S4x1000x4, .f32⟩
  | 60 => ⟨S_, .f32⟩
  | 61 => ⟨S_, .f32⟩
  | 62 => ⟨S4x1000, .f32⟩
  | 63 => ⟨S4x1000, .f32⟩
  | _ => ⟨S4x147456x4, .f32⟩

abbrev hbmTy (i : Nat) : BufTy := match i / 128 with
  | 0 => hbmTy0_0 i
  | 1 => hbmTy0_1 i
  | _ => ⟨S4x147456x4, .f32⟩

abbrev bufTy : (tb : Table) → Fin (tcTables nBuf tb) → BufTy
  | .hbm, ⟨i, _⟩ => hbmTy i
  | .local _ .vmem, ⟨0, _⟩ => ⟨S1x1x2048, .f32⟩
  | .local _ .vmem, ⟨1, _⟩ => ⟨S1x1x2048, .f32⟩
  | .local _ .vmem, ⟨2, _⟩ => ⟨S1x4x2048, .f32⟩
  | .local _ .vmem, ⟨3, _⟩ => ⟨S1x4x2048, .f32⟩
  | .local _ .vmem, ⟨4, _⟩ => ⟨S1x4x2048, .f32⟩
  | .local _ .vmem, ⟨5, _⟩ => ⟨S1x4x2048, .f32⟩
  | .local _ .vmem, ⟨6, _⟩ => ⟨S1x4x128x16, .f32⟩
  | .local _ .vmem, ⟨7, _⟩ => ⟨S1x4x128x16, .f32⟩
  | .local _ .vmem, ⟨8, _⟩ => ⟨S1x4x128x16, .f32⟩
  | .local _ .vmem, ⟨9, _⟩ => ⟨S1x4x128x16, .f32⟩
  | .local _ .vmem, ⟨10, _⟩ => ⟨S1x1x2048, .f32⟩
  | .local _ .vmem, ⟨11, _⟩ => ⟨S1x1x2048, .f32⟩
  | .local _ .vmem, ⟨12, _⟩ => ⟨S1x4x2048, .f32⟩
  | .local _ .vmem, ⟨13, _⟩ => ⟨S1x4x2048, .f32⟩
  | _, _ => ⟨S4x147456x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_values : Ref sig .tc := ⟨.hbm, 12, rfl⟩
abbrev main_indices : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_1 : Ref sig .tc := ⟨.hbm, 37, rfl⟩
abbrev main_call0_v5 : Ref sig .tc := ⟨.hbm, 38, rfl⟩
abbrev main_call0_v6 : Ref sig .tc := ⟨.hbm, 39, rfl⟩
abbrev main_call0_c_2 : Ref sig .tc := ⟨.hbm, 40, rfl⟩
abbrev main_call0_v7 : Ref sig .tc := ⟨.hbm, 41, rfl⟩
abbrev main_call0_v8 : Ref sig .tc := ⟨.hbm, 42, rfl⟩
abbrev main_call0_c_3 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_v20 : Ref sig .tc := ⟨.hbm, 50, rfl⟩
abbrev main_c_2 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_c : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_0 : Ref sig .tc := ⟨.hbm, 65, rfl⟩
abbrev main_call1_v12 : Ref sig .tc := ⟨.hbm, 66, rfl⟩
abbrev main_call1_v13 : Ref sig .tc := ⟨.hbm, 67, rfl⟩
abbrev main_v21 : Ref sig .tc := ⟨.hbm, 68, rfl⟩
abbrev main_v22 : Ref sig .tc := ⟨.hbm, 69, rfl⟩
abbrev main_c_3 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_c_4 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_cst : Ref sig .tc := ⟨.hbm, 105, rfl⟩
abbrev main_call2_v14 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_call3_c : Ref sig .tc := ⟨.hbm, 110, rfl⟩
abbrev main_call3_v0 : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_c_1 : Ref sig .tc := ⟨.hbm, 117, rfl⟩
abbrev main_call3_c_2 : Ref sig .tc := ⟨.hbm, 118, rfl⟩
abbrev main_call3_v5 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_c_3 : Ref sig .tc := ⟨.hbm, 125, rfl⟩
abbrev main_call3_v11 : Ref sig .tc := ⟨.hbm, 126, rfl⟩
abbrev main_call3_v12 : Ref sig .tc := ⟨.hbm, 127, rfl⟩
abbrev main_call3_v13 : Ref sig .tc := ⟨.hbm, 128, rfl⟩
abbrev main_call3_cst : Ref sig .tc := ⟨.hbm, 129, rfl⟩
abbrev main_call3_v14 : Ref sig .tc := ⟨.hbm, 130, rfl⟩
abbrev main_v40 : Ref sig .tc := ⟨.hbm, 131, rfl⟩
abbrev main_cst_5 : Ref sig .tc := ⟨.hbm, 132, rfl⟩
abbrev main_call4_v0 : Ref sig .tc := ⟨.hbm, 133, rfl⟩
abbrev main_v41 : Ref sig .tc := ⟨.hbm, 134, rfl⟩
abbrev main_v42 : Ref sig .tc := ⟨.hbm, 135, rfl⟩
abbrev main_c_6 : Ref sig .tc := ⟨.hbm, 136, rfl⟩
abbrev main_call5_v0 : Ref sig .tc := ⟨.hbm, 137, rfl⟩
abbrev main_v43 : Ref sig .tc := ⟨.hbm, 138, rfl⟩
abbrev main_c_7 : Ref sig .tc := ⟨.hbm, 139, rfl⟩
abbrev main_call6_v0 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev main_v49 : Ref sig .tc := ⟨.hbm, 146, rfl⟩
abbrev main_v50 : Ref sig .tc := ⟨.hbm, 147, rfl⟩
abbrev main_v51_0 : Ref sig .tc := ⟨.hbm, 148, rfl⟩
abbrev main_v51_1 : Ref sig .tc := ⟨.hbm, 149, rfl⟩
abbrev main_v52 : Ref sig .tc := ⟨.hbm, 150, rfl⟩
abbrev main_v53 : Ref sig .tc := ⟨.hbm, 151, rfl⟩
abbrev main_v54 : Ref sig .tc := ⟨.hbm, 152, rfl⟩
abbrev main_v55 : Ref sig .tc := ⟨.hbm, 153, rfl⟩
abbrev main_values_8 : Ref sig .tc := ⟨.hbm, 154, rfl⟩
abbrev main_indices_9 : Ref sig .tc := ⟨.hbm, 155, rfl⟩
abbrev main_v56 : Ref sig .tc := ⟨.hbm, 156, rfl⟩
abbrev main_call7_c : Ref sig .tc := ⟨.hbm, 157, rfl⟩
abbrev main_call7_v0 : Ref sig .tc := ⟨.hbm, 158, rfl⟩
abbrev main_call7_v1 : Ref sig .tc := ⟨.hbm, 159, rfl⟩
abbrev main_call7_c_0 : Ref sig .tc := ⟨.hbm, 160, rfl⟩
abbrev main_call7_v2 : Ref sig .tc := ⟨.hbm, 161, rfl⟩
abbrev main_call7_v3 : Ref sig .tc := ⟨.hbm, 162, rfl⟩
abbrev main_call7_v4 : Ref sig .tc := ⟨.hbm, 163, rfl⟩
abbrev main_call7_c_1 : Ref sig .tc := ⟨.hbm, 164, rfl⟩
abbrev main_call7_c_2 : Ref sig .tc := ⟨.hbm, 165, rfl⟩
abbrev main_call7_v5 : Ref sig .tc := ⟨.hbm, 166, rfl⟩
abbrev main_call7_v6 : Ref sig .tc := ⟨.hbm, 167, rfl⟩
abbrev main_call7_v7 : Ref sig .tc := ⟨.hbm, 168, rfl⟩
abbrev main_call7_v8 : Ref sig .tc := ⟨.hbm, 169, rfl⟩
abbrev main_call7_v9 : Ref sig .tc := ⟨.hbm, 170, rfl⟩
abbrev main_call7_v10 : Ref sig .tc := ⟨.hbm, 171, rfl⟩
abbrev main_call7_c_3 : Ref sig .tc := ⟨.hbm, 172, rfl⟩
abbrev main_call7_v11 : Ref sig .tc := ⟨.hbm, 173, rfl⟩
abbrev main_call7_v12 : Ref sig .tc := ⟨.hbm, 174, rfl⟩
abbrev main_call7_v13 : Ref sig .tc := ⟨.hbm, 175, rfl⟩
abbrev main_call7_cst : Ref sig .tc := ⟨.hbm, 176, rfl⟩
abbrev main_call7_v14 : Ref sig .tc := ⟨.hbm, 177, rfl⟩
abbrev main_v57 : Ref sig .tc := ⟨.hbm, 178, rfl⟩
abbrev main_cst_10 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_cst_11 : Ref sig .tc := ⟨.hbm, 183, rfl⟩
abbrev main_call8_v0 : Ref sig .tc := ⟨.hbm, 184, rfl⟩
abbrev main_call8_v1 : Ref sig .tc := ⟨.hbm, 185, rfl⟩
abbrev main_call8_v2 : Ref sig .tc := ⟨.hbm, 186, rfl⟩
abbrev main_v61 : Ref sig .tc := ⟨.hbm, 187, rfl⟩
abbrev main_cst_12 : Ref sig .tc := ⟨.hbm, 188, rfl⟩
abbrev main_call9_v0 : Ref sig .tc := ⟨.hbm, 189, rfl⟩
abbrev main_call9_v1 : Ref sig .tc := ⟨.hbm, 190, rfl⟩
abbrev main_v62 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c128_i32 : BitVec 32 := 128#32
  let v177 : BitVec 32 := Scalar.addi c0_i32 c128_i32
  let c1_i32 : BitVec 32 := 1#32
  ⟨c0_i32, v177, c1_i32⟩
@[reducible] def k0_t2_loop : Scf.Loop 32 :=
  let c0_i32_80 : BitVec 32 := 0#32
  let c128_i32_81 : BitVec 32 := 128#32
  let v250 : BitVec 32 := Scalar.addi c0_i32_80 c128_i32_81
  let c1_i32_82 : BitVec 32 := 1#32
  ⟨c0_i32_80, v250, c1_i32_82⟩
@[reducible] def k0_t3_loop : Scf.Loop 32 :=
  let c0_i32_100 : BitVec 32 := 0#32
  let c128_i32_101 : BitVec 32 := 128#32
  let v324 : BitVec 32 := Scalar.addi c0_i32_100 c128_i32_101
  let c1_i32_102 : BitVec 32 := 1#32
  ⟨c0_i32_100, v324, c1_i32_102⟩
@[reducible] def k0_t4_loop : Scf.Loop 32 :=
  let c0_i32_120 : BitVec 32 := 0#32
  let c128_i32_121 : BitVec 32 := 128#32
  let v398 : BitVec 32 := Scalar.addi c0_i32_120 c128_i32_121
  let c1_i32_122 : BitVec 32 := 1#32
  ⟨c0_i32_120, v398, c1_i32_122⟩
@[reducible] def k0_t5_loop : Scf.Loop 32 :=
  let c0_i32_140 : BitVec 32 := 0#32
  let c128_i32_141 : BitVec 32 := 128#32
  let v472 : BitVec 32 := Scalar.addi c0_i32_140 c128_i32_141
  let c1_i32_142 : BitVec 32 := 1#32
  ⟨c0_i32_140, v472, c1_i32_142⟩
@[reducible] def k0_t6_loop : Scf.Loop 32 :=
  let c0_i32_160 : BitVec 32 := 0#32
  let c128_i32_161 : BitVec 32 := 128#32
  let v546 : BitVec 32 := Scalar.addi c0_i32_160 c128_i32_161
  let c1_i32_162 : BitVec 32 := 1#32
  ⟨c0_i32_160, v546, c1_i32_162⟩
@[reducible] def k0_t7_loop : Scf.Loop 32 :=
  let c0_i32_180 : BitVec 32 := 0#32
  let c128_i32_181 : BitVec 32 := 128#32
  let v620 : BitVec 32 := Scalar.addi c0_i32_180 c128_i32_181
  let c1_i32_182 : BitVec 32 := 1#32
  ⟨c0_i32_180, v620, c1_i32_182⟩
@[reducible] def k0_t8_loop : Scf.Loop 32 :=
  let c0_i32_200 : BitVec 32 := 0#32
  let c128_i32_201 : BitVec 32 := 128#32
  let v694 : BitVec 32 := Scalar.addi c0_i32_200 c128_i32_201
  let c1_i32_202 : BitVec 32 := 1#32
  ⟨c0_i32_200, v694, c1_i32_202⟩
@[reducible] def k0_t9_loop : Scf.Loop 32 :=
  let c0_i32_220 : BitVec 32 := 0#32
  let c128_i32_221 : BitVec 32 := 128#32
  let v768 : BitVec 32 := Scalar.addi c0_i32_220 c128_i32_221
  let c1_i32_222 : BitVec 32 := 1#32
  ⟨c0_i32_220, v768, c1_i32_222⟩
@[reducible] def k0_t10_loop : Scf.Loop 32 :=
  let c0_i32_240 : BitVec 32 := 0#32
  let c128_i32_241 : BitVec 32 := 128#32
  let v842 : BitVec 32 := Scalar.addi c0_i32_240 c128_i32_241
  let c1_i32_242 : BitVec 32 := 1#32
  ⟨c0_i32_240, v842, c1_i32_242⟩
@[reducible] def k0_t11_loop : Scf.Loop 32 :=
  let c0_i32_260 : BitVec 32 := 0#32
  let c128_i32_261 : BitVec 32 := 128#32
  let v916 : BitVec 32 := Scalar.addi c0_i32_260 c128_i32_261
  let c1_i32_262 : BitVec 32 := 1#32
  ⟨c0_i32_260, v916, c1_i32_262⟩
@[reducible] def k0_t12_loop : Scf.Loop 32 :=
  let c0_i32_280 : BitVec 32 := 0#32
  let c128_i32_281 : BitVec 32 := 128#32
  let v990 : BitVec 32 := Scalar.addi c0_i32_280 c128_i32_281
  let c1_i32_282 : BitVec 32 := 1#32
  ⟨c0_i32_280, v990, c1_i32_282⟩
@[reducible] def k0_t13_loop : Scf.Loop 32 :=
  let c0_i32_300 : BitVec 32 := 0#32
  let c128_i32_301 : BitVec 32 := 128#32
  let v1064 : BitVec 32 := Scalar.addi c0_i32_300 c128_i32_301
  let c1_i32_302 : BitVec 32 := 1#32
  ⟨c0_i32_300, v1064, c1_i32_302⟩
@[reducible] def k0_t14_loop : Scf.Loop 32 :=
  let c0_i32_320 : BitVec 32 := 0#32
  let c128_i32_321 : BitVec 32 := 128#32
  let v1138 : BitVec 32 := Scalar.addi c0_i32_320 c128_i32_321
  let c1_i32_322 : BitVec 32 := 1#32
  ⟨c0_i32_320, v1138, c1_i32_322⟩
@[reducible] def k0_t15_loop : Scf.Loop 32 :=
  let c0_i32_340 : BitVec 32 := 0#32
  let c128_i32_341 : BitVec 32 := 128#32
  let v1212 : BitVec 32 := Scalar.addi c0_i32_340 c128_i32_341
  let c1_i32_342 : BitVec 32 := 1#32
  ⟨c0_i32_340, v1212, c1_i32_342⟩
@[reducible] def k0_t16_loop : Scf.Loop 32 :=
  let c0_i32_360 : BitVec 32 := 0#32
  let c128_i32_361 : BitVec 32 := 128#32
  let v1286 : BitVec 32 := Scalar.addi c0_i32_360 c128_i32_361
  let c1_i32_362 : BitVec 32 := 1#32
  ⟨c0_i32_360, v1286, c1_i32_362⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x147456x4 : Shape := ⟨3, ![4, 147456, 4]⟩
abbrev S4x3x192x256 : Shape := ⟨4, ![4, 3, 192, 256]⟩
abbrev S4x12x192x256 : Shape := ⟨4, ![4, 12, 192, 256]⟩
abbrev S4x192x256x3 : Shape := ⟨4, ![4, 192, 256, 3]⟩
abbrev S4x147456 : Shape := ⟨2, ![4, 147456]⟩
abbrev S_ : Shape := ⟨0, ![]⟩
abbrev S4x3x4x192x256 : Shape := ⟨5, ![4, 3, 4, 192, 256]⟩
abbrev S4x192x256x3x4 : Shape := ⟨5, ![4, 192, 256, 3, 4]⟩
abbrev S4x2000 : Shape := ⟨2, ![4, 2000]⟩
abbrev S4x2000x1 : Shape := ⟨3, ![4, 2000, 1]⟩
abbrev S1 : Shape := ⟨1, ![1]⟩
abbrev S1x1x1 : Shape := ⟨3, ![1, 1, 1]⟩
abbrev S4x2000x4 : Shape := ⟨3, ![4, 2000, 4]⟩
abbrev S4x1x2000 : Shape := ⟨3, ![4, 1, 2000]⟩
abbrev S4x2000x2000 : Shape := ⟨3, ![4, 2000, 2000]⟩
abbrev S2000 : Shape := ⟨1, ![2000]⟩
abbrev S4x1 : Shape := ⟨2, ![4, 1]⟩
abbrev S1x2000 : Shape := ⟨2, ![1, 2000]⟩
abbrev S4x1000 : Shape := ⟨2, ![4, 1000]⟩
abbrev S4x1000x1 : Shape := ⟨3, ![4, 1000, 1]⟩
abbrev S4x1000x4 : Shape := ⟨3, ![4, 1000, 4]⟩

abbrev nBuf : Space → Nat
  | .hbm => 332
  | .vmem => 0
  | .smem => 0
  | _ => 0

abbrev hbmTy0_0 (i : Nat) : BufTy := match i % 128 with
  | 0 => ⟨S4x147456x4, .f32⟩
  | 1 => ⟨S4x3x192x256, .f32⟩
  | 2 => ⟨S4x12x192x256, .f32⟩
  | 3 => ⟨S4x192x256x3, .f32⟩
  | 4 => ⟨S4x147456, .f32⟩
  | 5 => ⟨S4x147456, .f32⟩
  | 6 => ⟨S4x147456, .f32⟩
  | 7 => ⟨S_, .f32⟩
  | 8 => ⟨S4x147456, .f32⟩
  | 9 => ⟨S4x147456, .f32⟩
  | 10 => ⟨S_, .f32⟩
  | 11 => ⟨S4x147456, .f32⟩
  | 12 => ⟨S4x147456, .f32⟩
  | 13 => ⟨S4x3x4x192x256, .f32⟩
  | 14 => ⟨S4x192x256x3x4, .f32⟩
  | 15 => ⟨S4x147456x4, .f32⟩
  | 16 => ⟨S4x2000, .f32⟩
  | 17 => ⟨S4x2000, .i32⟩
  | 18 => ⟨S4x2000x1, .i32⟩
  | 19 => ⟨S_, .i32⟩
  | 20 => ⟨S4x2000x1, .i32⟩
  | 21 => ⟨S4x2000x1, .i1⟩
  | 22 => ⟨S_, .i32⟩
  | 23 => ⟨S4x2000x1, .i32⟩
  | 24 => ⟨S4x2000x1, .i32⟩
  | 25 => ⟨S4x2000x1, .i32⟩
  | 26 => ⟨S1, .i32⟩
  | 27 => ⟨S_, .i32⟩
  | 28 => ⟨S4x2000x1, .i32⟩
  | 29 => ⟨S4x2000x1, .i1⟩
  | 30 => ⟨S1x1x1, .i32⟩
  | 31 => ⟨S4x2000x1, .i32⟩
  | 32 => ⟨S4x2000x1, .i1⟩
  | 33 => ⟨S4x2000x1, .i1⟩
  | 34 => ⟨S_, .i1⟩
  | 35 => ⟨S4x2000, .i1⟩
  | 36 => ⟨S4x2000x4, .f32⟩
  | 37 => ⟨S4x2000x4, .i1⟩
  | 38 => ⟨S_, .f32⟩
  | 39 => ⟨S4x2000x4, .f32⟩
  | 40 => ⟨S4x2000x4, .f32⟩
  | 41 => ⟨S4x2000x1, .i32⟩
  | 42 => ⟨S_, .i32⟩
  | 43 => ⟨S4x2000x1, .i32⟩
  | 44 => ⟨S4x2000x1, .i1⟩
  | 45 => ⟨S_, .i32⟩
  | 46 => ⟨S4x2000x1, .i32⟩
  | 47 => ⟨S4x2000x1, .i32⟩
  | 48 => ⟨S4x2000x1, .i32⟩
  | 49 => ⟨S1, .i32⟩
  | 50 => ⟨S_, .i32⟩
  | 51 => ⟨S4x2000x1, .i32⟩
  | 52 => ⟨S4x2000x1, .i1⟩
  | 53 => ⟨S1x1x1, .i32⟩
  | 54 => ⟨S4x2000x1, .i32⟩
  | 55 => ⟨S4x2000x1, .i1⟩
  | 56 => ⟨S4x2000x1, .i1⟩
  | 57 => ⟨S_, .i1⟩
  | 58 => ⟨S4x2000, .i1⟩
  | 59 => ⟨S4x2000x4, .f32⟩
  | 60 => ⟨S4x2000x4, .i1⟩
  | 61 => ⟨S_, .f32⟩
  | 62 => ⟨S4x2000x4, .f32⟩
  | 63 => ⟨S4x2000x4, .f32⟩
  | 64 => ⟨S4x2000x1, .f32⟩
  | 65 => ⟨S4x2000, .f32⟩
  | 66 => ⟨S4x2000x1, .f32⟩
  | 67 => ⟨S4x2000, .f32⟩
  | 68 => ⟨S4x2000, .f32⟩
  | 69 => ⟨S_, .f32⟩
  | 70 => ⟨S4x2000, .f32⟩
  | 71 => ⟨S4x2000, .f32⟩
  | 72 => ⟨S4x2000x1, .f32⟩
  | 73 => ⟨S4x2000, .f32⟩
  | 74 => ⟨S4x2000x1, .f32⟩
  | 75 => ⟨S4x2000, .f32⟩
  | 76 => ⟨S4x2000, .f32⟩
  | 77 => ⟨S_, .f32⟩
  | 78 => ⟨S4x2000, .f32⟩
  | 79 => ⟨S4x2000, .f32⟩
  | 80 => ⟨S4x2000x1, .f32⟩
  | 81 => ⟨S4x2000, .f32⟩
  | 82 => ⟨S_, .f32⟩
  | 83 => ⟨S4x2000, .f32⟩
  | 84 => ⟨S4x2000, .f32⟩
  | 85 => ⟨S4x2000, .f32⟩
  | 86 => ⟨S4x2000x1, .f32⟩
  | 87 => ⟨S4x2000, .f32⟩
  | 88 => ⟨S_, .f32⟩
  | 89 => ⟨S4x2000, .f32⟩
  | 90 => ⟨S4x2000, .f32⟩
  | 91 => ⟨S4x2000, .f32⟩
  | 92 => ⟨S4x2000x1, .f32⟩
  | 93 => ⟨S4x2000, .f32⟩
  | 94 => ⟨S_, .f32⟩
  | 95 => ⟨S4x2000, .f32⟩
  | 96 => ⟨S4x2000, .f32⟩
  | 97 => ⟨S4x2000x1, .f32⟩
  | 98 => ⟨S4x2000, .f32⟩
  | 99 => ⟨S_, .f32⟩
  | 100 => ⟨S4x2000, .f32⟩
  | 101 => ⟨S4x2000, .f32⟩
  | 102 => ⟨S4x2000x1, .f32⟩
  | 103 => ⟨S4x2000, .f32⟩
  | 104 => ⟨S4x2000, .f32⟩
  | 105 => ⟨S4x2000, .f32⟩
  | 106 => ⟨S4x2000x1, .f32⟩
  | 107 => ⟨S4x2000, .f32⟩
  | 108 => ⟨S4x2000, .f32⟩
  | 109 => ⟨S4x2000, .f32⟩
  | 110 => ⟨S4x2000, .f32⟩
  | 111 => ⟨S4x2000, .f32⟩
  | 112 => ⟨S4x2000, .f32⟩
  | 113 => ⟨S4x2000, .f32⟩
  | 114 => ⟨S_, .f32⟩
  | 115 => ⟨S4x2000, .f32⟩
  | 116 => ⟨S4x2000, .f32⟩
  | 117 => ⟨S4x2000, .f32⟩
  | 118 => ⟨S_, .f32⟩
  | 119 => ⟨S_, .f32⟩
  | 120 => ⟨S_, .f32⟩
  | 121 => ⟨S4x2000, .f32⟩
  | 122 => ⟨S4x2000, .f32⟩
  | 123 => ⟨S_, .f32⟩
  | 124 => ⟨S4x2000, .f32⟩
  | 125 => ⟨S4x2000, .f32⟩
  | 126 => ⟨S_, .f32⟩
  | 127 => ⟨S4x2000, .f32⟩
  | _ => ⟨S4x147456x4, .f32⟩

abbrev hbmTy0_1 (i : Nat) : BufTy := match i % 128 with
  | 0 => ⟨S4x2000, .f32⟩
  | 1 => ⟨S4x2000, .f32⟩
  | 2 => ⟨S_, .f32⟩
  | 3 => ⟨S_, .f32⟩
  | 4 => ⟨S_, .f32⟩
  | 5 => ⟨S4x2000, .f32⟩
  | 6 => ⟨S4x2000, .f32⟩
  | 7 => ⟨S_, .f32⟩
  | 8 => ⟨S4x2000, .f32⟩
  | 9 => ⟨S4x2000, .f32⟩
  | 10 => ⟨S_, .f32⟩
  | 11 => ⟨S4x2000, .f32⟩
  | 12 => ⟨S4x2000, .f32⟩
  | 13 => ⟨S4x2000, .f32⟩
  | 14 => ⟨S_, .f32⟩
  | 15 => ⟨S4x2000, .f32⟩
  | 16 => ⟨S4x2000, .f32⟩
  | 17 => ⟨S_, .f32⟩
  | 18 => ⟨S_, .f32⟩
  | 19 => ⟨S_, .f32⟩
  | 20 => ⟨S4x2000, .f32⟩
  | 21 => ⟨S4x2000, .f32⟩
  | 22 => ⟨S_, .f32⟩
  | 23 => ⟨S4x2000, .f32⟩
  | 24 => ⟨S4x2000, .f32⟩
  | 25 => ⟨S_, .f32⟩
  | 26 => ⟨S4x2000, .f32⟩
  | 27 => ⟨S4x2000, .f32⟩
  | 28 => ⟨S4x2000, .f32⟩
  | 29 => ⟨S_, .f32⟩
  | 30 => ⟨S4x2000, .f32⟩
  | 31 => ⟨S4x2000, .f32⟩
  | 32 => ⟨S_, .f32⟩
  | 33 => ⟨S_, .f32⟩
  | 34 => ⟨S_, .f32⟩
  | 35 => ⟨S4x2000, .f32⟩
  | 36 => ⟨S4x2000, .f32⟩
  | 37 => ⟨S_, .f32⟩
  | 38 => ⟨S4x2000, .f32⟩
  | 39 => ⟨S4x2000, .f32⟩
  | 40 => ⟨S4x2000x1, .f32⟩
  | 41 => ⟨S4x2000x1, .f32⟩
  | 42 => ⟨S4x2000x1, .f32⟩
  | 43 => ⟨S4x2000x1, .f32⟩
  | 44 => ⟨S4x2000x4, .f32⟩
  | 45 => ⟨S4x2000, .f32⟩
  | 46 => ⟨S_, .f32⟩
  | 47 => ⟨S4x2000, .f32⟩
  | 48 => ⟨S4x2000, .f32⟩
  | 49 => ⟨S4x2000, .f32⟩
  | 50 => ⟨S_, .f32⟩
  | 51 => ⟨S4x2000, .f32⟩
  | 52 => ⟨S4x2000, .f32⟩
  | 53 => ⟨S_, .f32⟩
  | 54 => ⟨S4x2000, .f32⟩
  | 55 => ⟨S4x2000, .i1⟩
  | 56 => ⟨S_, .f32⟩
  | 57 => ⟨S4x2000, .f32⟩
  | 58 => ⟨S4x2000, .i1⟩
  | 59 => ⟨S4x2000, .i1⟩
  | 60 => ⟨S_, .f32⟩
  | 61 => ⟨S_, .f32⟩
  | 62 => ⟨S4x2000, .f32⟩
  | 63 => ⟨S4x2000, .f32⟩
  | 64 => ⟨S4x2000, .f32⟩
  | 65 => ⟨S_, .f32⟩
  | 66 => ⟨S4x2000, .f32⟩
  | 67 => ⟨S4x2000, .f32⟩
  | 68 => ⟨S4x2000, .f32⟩
  | 69 => ⟨S_, .f32⟩
  | 70 => ⟨S4x2000, .f32⟩
  | 71 => ⟨S4x2000, .f32⟩
  | 72 => ⟨S4x2000, .f32⟩
  | 73 => ⟨S4x2000x1, .f32⟩
  | 74 => ⟨S4x1x2000, .f32⟩
  | 75 => ⟨S4x2000x2000, .f32⟩
  | 76 => ⟨S4x2000x2000, .f32⟩
  | 77 => ⟨S4x2000x2000, .f32⟩
  | 78 => ⟨S4x2000x1, .f32⟩
  | 79 => ⟨S4x1x2000, .f32⟩
  | 80 => ⟨S4x2000x2000, .f32⟩
  | 81 => ⟨S4x2000x2000, .f32⟩
  | 82 => ⟨S4x2000x2000, .f32⟩
  | 83 => ⟨S4x2000x2000, .f32⟩
  | 84 => ⟨S_, .f32⟩
  | 85 => ⟨S4x2000x2000, .f32⟩
  | 86 => ⟨S4x2000x2000, .f32⟩
  | 87 => ⟨S_, .f32⟩
  | 88 => ⟨S4x2000x2000, .f32⟩
  | 89 => ⟨S4x2000x2000, .f32⟩
  | 90 => ⟨S4x2000x1, .f32⟩
  | 91 => ⟨S4x1x2000, .f32⟩
  | 92 => ⟨S4x2000x2000, .f32⟩
  | 93 => ⟨S4x2000x2000, .f32⟩
  | 94 => ⟨S4x2000x2000, .f32⟩
  | 95 => ⟨S4x2000x1, .f32⟩
  | 96 => ⟨S4x1x2000, .f32⟩
  | 97 => ⟨S4x2000x2000, .f32⟩
  | 98 => ⟨S4x2000x2000, .f32⟩
  | 99 => ⟨S4x2000x2000, .f32⟩
  | 100 => ⟨S4x2000x2000, .f32⟩
  | 101 => ⟨S_, .f32⟩
  | 102 => ⟨S4x2000x2000, .f32⟩
  | 103 => ⟨S4x2000x2000, .f32⟩
  | 104 => ⟨S_, .f32⟩
  | 105 => ⟨S4x2000x2000, .f32⟩
  | 106 => ⟨S4x2000x2000, .f32⟩
  | 107 => ⟨S4x2000x2000, .f32⟩
  | 108 => ⟨S4x2000x1, .f32⟩
  | 109 => ⟨S4x1x2000, .f32⟩
  | 110 => ⟨S4x2000x2000, .f32⟩
  | 111 => ⟨S4x2000x2000, .f32⟩
  | 112 => ⟨S4x2000x2000, .f32⟩
  | 113 => ⟨S4x2000x2000, .f32⟩
  | 114 => ⟨S4x2000x2000, .f32⟩
  | 115 => ⟨S2000, .i32⟩
  | 116 => ⟨S_, .i1⟩
  | 117 => ⟨S4x2000, .i1⟩
  | 118 => ⟨S_, .i32⟩
  | 119 => ⟨S_, .i32⟩
  | 120 => ⟨S4x2000x2000, .f32⟩
  | 121 => ⟨S2000, .i32⟩
  | 122 => ⟨S_, .i32⟩
  | 123 => ⟨S_, .i32⟩
  | 124 => ⟨S4x2000, .i1⟩
  | 125 => ⟨S_, .i32⟩
  | 126 => ⟨S_, .i1⟩
  | 127 => ⟨S_, .i32⟩
  | _ => ⟨S4x147456x4, .f32⟩

abbrev hbmTy0_2 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S4x1x2000, .f32⟩
  | 10 => ⟨S4x2000, .f32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S4x1, .i1⟩
  | 19 => ⟨S_, .f32⟩
  | 20 => ⟨S4x2000, .f32⟩
  | 21 => ⟨S4x2000, .i1⟩
  | 22 => ⟨S4x2000, .i1⟩
  | 23 => ⟨S4x2000, .i1⟩
  | 24 => ⟨S_, .i32⟩
  | 25 => ⟨S2000, .i32⟩
  | 26 => ⟨S2000, .i1⟩
  | 27 => ⟨S1x2000, .i1⟩
  | 28 => ⟨S4x2000, .i1⟩
  | 29 => ⟨S4x2000, .i1⟩
  | 30 => ⟨S4x2000, .i1⟩
  | 31 => ⟨S4x2000, .i1⟩
  | 32 => ⟨S_, .i32⟩
  | 33 => ⟨S_, .i32⟩
  | 34 => ⟨S_, .f32⟩
  | 35 => ⟨S_, .f32⟩
  | 36 => ⟨S4x2000, .f32⟩
  | 37 => ⟨S4x2000, .f32⟩
  | 38 => ⟨S4x1000, .f32⟩
  | 39 => ⟨S4x1000, .i32⟩
  | 40 => ⟨S4x1000x1, .i32⟩
  | 41 => ⟨S_, .i32⟩
  | 42 => ⟨S4x1000x1, .i32⟩
  | 43 => ⟨S4x1000x1, .i1⟩
  | 44 => ⟨S_, .i32⟩
  | 45 => ⟨S4x1000x1, .i32⟩
  | 46 => ⟨S4x1000x1, .i32⟩
  | 47 => ⟨S4x1000x1, .i32⟩
  | 48 => ⟨S1, .i32⟩
  | 49 => ⟨S_, .i32⟩
  | 50 => ⟨S4x1000x1, .i32⟩
  | 51 => ⟨S4x1000x1, .i1⟩
  | 52 => ⟨S1x1x1, .i32⟩
  | 53 => ⟨S4x1000x1, .i32⟩
  | 54 => ⟨S4x1000x1, .i1⟩
  | 55 => ⟨S4x1000x1, .i1⟩
  | 56 => ⟨S_, .i1⟩
  | 57 => ⟨S4x1000, .i1⟩
  | 58 => ⟨S4x1000x4, .f32⟩
  | 59 => ⟨S4x1000x4, .i1⟩
  | 60 => ⟨S_, .f32⟩
  | 61 => ⟨S4x1000x4, .f32⟩
  | 62 => ⟨S4x1000x4, .f32⟩
  | 63 => ⟨S_, .f32⟩
  | 64 => ⟨S4x1000, .f32⟩
  | 65 => ⟨S4x1000, .i1⟩
  | 66 => ⟨S4x1000x1, .i1⟩
  | 67 => ⟨S_, .f32⟩
  | 68 => ⟨S_, .f32⟩
  | 69 => ⟨S4x1000x4, .i1⟩
  | 70 => ⟨S4x1000x4, .f32⟩
  | 71 => ⟨S4x1000x4, .f32⟩
  | 72 => ⟨S_, .f32⟩
  | 73 => ⟨S_, .f32⟩
  | 74 => ⟨S4x1000, .f32⟩
  | 75 => ⟨S4x1000, .f32⟩
  | _ => ⟨S4x147456x4, .f32⟩

abbrev hbmTy (i : Nat) : BufTy := match i / 128 with
  | 0 => hbmTy0_0 i
  | 1 => hbmTy0_1 i
  | 2 => hbmTy0_2 i
  | _ => ⟨S4x147456x4, .f32⟩

abbrev bufTy : (tb : Table) → Fin (tcTables nBuf tb) → BufTy
  | .hbm, ⟨i, _⟩ => hbmTy i
  | _, _ => ⟨S4x147456x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_values : Ref sig .tc := ⟨.hbm, 16, rfl⟩
abbrev main_indices : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_c_2 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_c_3 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v12 : Ref sig .tc := ⟨.hbm, 40, rfl⟩
abbrev main_v13 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_c_2 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_c_3 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_cst : Ref sig .tc := ⟨.hbm, 61, rfl⟩
abbrev main_call1_v14 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_cst_1 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_cst_2 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_cst_3 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_cst_4 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_cst_5 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_cst_6 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_cst_7 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_cst_8 : Ref sig .tc := ⟨.hbm, 118, rfl⟩
abbrev main_cst_9 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_v62 : Ref sig .tc := ⟨.hbm, 125, rfl⟩
abbrev main_cst_10 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_cst_11 : Ref sig .tc := ⟨.hbm, 130, rfl⟩
abbrev main_cst_12 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_v66 : Ref sig .tc := ⟨.hbm, 137, rfl⟩
abbrev main_cst_13 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_cst_14 : Ref sig .tc := ⟨.hbm, 142, rfl⟩
abbrev main_v70 : Ref sig .tc := ⟨.hbm, 143, rfl⟩
abbrev main_v71 : Ref sig .tc := ⟨.hbm, 144, rfl⟩
abbrev main_cst_15 : Ref sig .tc := ⟨.hbm, 145, rfl⟩
abbrev main_cst_16 : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_v72 : Ref sig .tc := ⟨.hbm, 152, rfl⟩
abbrev main_cst_17 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_cst_18 : Ref sig .tc := ⟨.hbm, 157, rfl⟩
abbrev main_v76 : Ref sig .tc := ⟨.hbm, 158, rfl⟩
abbrev main_v77 : Ref sig .tc := ⟨.hbm, 159, rfl⟩
abbrev main_cst_19 : Ref sig .tc := ⟨.hbm, 160, rfl⟩
abbrev main_cst_20 : Ref sig .tc := ⟨.hbm, 161, rfl⟩
abbrev main_call5_v0 : Ref sig .tc := ⟨.hbm, 162, rfl⟩
abbrev main_call5_v1 : Ref sig .tc := ⟨.hbm, 163, rfl⟩
abbrev main_call5_v2 : Ref sig .tc := ⟨.hbm, 164, rfl⟩
abbrev main_call5_v3 : Ref sig .tc := ⟨.hbm, 165, rfl⟩
abbrev main_call5_v4 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_cst_21 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_cst_22 : Ref sig .tc := ⟨.hbm, 178, rfl⟩
abbrev main_v88 : Ref sig .tc := ⟨.hbm, 179, rfl⟩
abbrev main_v89 : Ref sig .tc := ⟨.hbm, 180, rfl⟩
abbrev main_cst_23 : Ref sig .tc := ⟨.hbm, 181, rfl⟩
abbrev main_v90 : Ref sig .tc := ⟨.hbm, 182, rfl⟩
abbrev main_v91 : Ref sig .tc := ⟨.hbm, 183, rfl⟩
abbrev main_cst_24 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_cst_25 : Ref sig .tc := ⟨.hbm, 188, rfl⟩
abbrev main_call6_v0 : Ref sig .tc := ⟨.hbm, 189, rfl⟩
abbrev main_call6_v1 : Ref sig .tc := ⟨.hbm, 190, rfl⟩
abbrev main_v95 : Ref sig .tc := ⟨.hbm, 191, rfl⟩
abbrev main_v96 : Ref sig .tc := ⟨.hbm, 192, rfl⟩
abbrev main_cst_26 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_cst_27 : Ref sig .tc := ⟨.hbm, 197, rfl⟩
abbrev main_v100 : Ref sig .tc := ⟨.hbm, 198, rfl⟩
abbrev main_v101 : Ref sig .tc := ⟨.hbm, 199, rfl⟩
abbrev main_v102 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_cst_28 : Ref sig .tc := ⟨.hbm, 212, rfl⟩
abbrev main_v114 : Ref sig .tc := ⟨.hbm, 213, rfl⟩
abbrev main_v115 : Ref sig .tc := ⟨.hbm, 214, rfl⟩
abbrev main_cst_29 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_cst_30 : Ref sig .tc := ⟨.hbm, 229, rfl⟩
abbrev main_v129 : Ref sig .tc := ⟨.hbm, 230, rfl⟩
abbrev main_v130 : Ref sig .tc := ⟨.hbm, 231, rfl⟩
abbrev main_cst_31 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_c : Ref sig .tc := ⟨.hbm, 244, rfl⟩
abbrev main_v142 : Ref sig .tc := ⟨.hbm, 245, rfl⟩
abbrev main_c_32 : Ref sig .tc := ⟨.hbm, 246, rfl⟩
abbrev main_c_33 : Ref sig .tc := ⟨.hbm, 247, rfl⟩
abbrev main_v143_0 : Ref sig .tc := ⟨.hbm, 248, rfl⟩
abbrev main_v143_1 : Ref sig .tc := ⟨.hbm, 249, rfl⟩
abbrev main_v143_2 : Ref sig .tc := ⟨.hbm, 250, rfl⟩
abbrev main_v143_3 : Ref sig .tc := ⟨.hbm, 251, rfl⟩
abbrev main_v143_4 : Ref sig .tc := ⟨.hbm, 252, rfl⟩
abbrev main_while0c_c_44 : Ref sig .tc := ⟨.hbm, 253, rfl⟩
abbrev main_while0c_v152 : Ref sig .tc := ⟨.hbm, 254, rfl⟩
abbrev main_while0b_c_44 : Ref sig .tc := ⟨.hbm, 255, rfl⟩
abbrev main_while0b_v152 : Ref sig .tc := ⟨.hbm, 256, rfl⟩
abbrev main_while0b_call7_c : Ref sig .tc := ⟨.hbm, 257, rfl⟩
abbrev main_while0b_call7_v0 : Ref sig .tc := ⟨.hbm, 258, rfl⟩
abbrev main_while0b_call7_v1 : Ref sig .tc := ⟨.hbm, 259, rfl⟩
abbrev main_while0b_call7_c_0 : Ref sig .tc := ⟨.hbm, 260, rfl⟩
abbrev main_while0b_call7_v2 : Ref sig .tc := ⟨.hbm, 261, rfl⟩
abbrev main_while0b_call7_v3 : Ref sig .tc := ⟨.hbm, 262, rfl⟩
abbrev main_while0b_call7_c_1 : Ref sig .tc := ⟨.hbm, 263, rfl⟩
abbrev main_while0b_call7_c_2 : Ref sig .tc := ⟨.hbm, 264, rfl⟩
abbrev main_while0b_call7_v4 : Ref sig .tc := ⟨.hbm, 265, rfl⟩
abbrev main_while0b_v153 : Ref sig .tc := ⟨.hbm, 266, rfl⟩
abbrev main_while0b_call8_c : Ref sig .tc := ⟨.hbm, 267, rfl⟩
abbrev main_while0b_call8_v0 : Ref sig .tc := ⟨.hbm, 268, rfl⟩
abbrev main_while0b_call8_v1 : Ref sig .tc := ⟨.hbm, 269, rfl⟩
abbrev main_while0b_call8_c_0 : Ref sig .tc := ⟨.hbm, 270, rfl⟩
abbrev main_while0b_call8_v2 : Ref sig .tc := ⟨.hbm, 271, rfl⟩
abbrev main_while0b_call8_v3 : Ref sig .tc := ⟨.hbm, 272, rfl⟩
abbrev main_while0b_call8_c_1 : Ref sig .tc := ⟨.hbm, 273, rfl⟩
abbrev main_while0b_v154 : Ref sig .tc := ⟨.hbm, 274, rfl⟩
abbrev main_while0b_cst_45 : Ref sig .tc := ⟨.hbm, 275, rfl⟩
abbrev main_while0b_v155 : Ref sig .tc := ⟨.hbm, 276, rfl⟩
abbrev main_while0b_v156 : Ref sig .tc := ⟨.hbm, 277, rfl⟩
abbrev main_while0b_v157 : Ref sig .tc := ⟨.hbm, 278, rfl⟩
abbrev main_while0b_v158 : Ref sig .tc := ⟨.hbm, 279, rfl⟩
abbrev main_while0b_v159 : Ref sig .tc := ⟨.hbm, 280, rfl⟩
abbrev main_while0b_v160 : Ref sig .tc := ⟨.hbm, 281, rfl⟩
abbrev main_while0b_v161 : Ref sig .tc := ⟨.hbm, 282, rfl⟩
abbrev main_while0b_v162 : Ref sig .tc := ⟨.hbm, 283, rfl⟩
abbrev main_while0b_v163 : Ref sig .tc := ⟨.hbm, 284, rfl⟩
abbrev main_while0b_v164 : Ref sig .tc := ⟨.hbm, 285, rfl⟩
abbrev main_while0b_v165 : Ref sig .tc := ⟨.hbm, 286, rfl⟩
abbrev main_while0b_v166 : Ref sig .tc := ⟨.hbm, 287, rfl⟩
abbrev main_while0b_c_46 : Ref sig .tc := ⟨.hbm, 288, rfl⟩
abbrev main_while0b_v167 : Ref sig .tc := ⟨.hbm, 289, rfl⟩
abbrev main_cst_34 : Ref sig .tc := ⟨.hbm, 290, rfl⟩
abbrev main_call9_v0 : Ref sig .tc := ⟨.hbm, 291, rfl⟩
abbrev main_call9_v1 : Ref sig .tc := ⟨.hbm, 292, rfl⟩
abbrev main_v144 : Ref sig .tc := ⟨.hbm, 293, rfl⟩
abbrev main_values_35 : Ref sig .tc := ⟨.hbm, 294, rfl⟩
abbrev main_indices_36 : Ref sig .tc := ⟨.hbm, 295, rfl⟩
abbrev main_v145 : Ref sig .tc := ⟨.hbm, 296, rfl⟩
abbrev main_call10_c : Ref sig .tc := ⟨.hbm, 297, rfl⟩
abbrev main_call10_v0 : Ref sig .tc := ⟨.hbm, 298, rfl⟩
abbrev main_call10_v1 : Ref sig .tc := ⟨.hbm, 299, rfl⟩
abbrev main_call10_c_0 : Ref sig .tc := ⟨.hbm, 300, rfl⟩
abbrev main_call10_v2 : Ref sig .tc := ⟨.hbm, 301, rfl⟩
abbrev main_call10_v3 : Ref sig .tc := ⟨.hbm, 302, rfl⟩
abbrev main_call10_v4 : Ref sig .tc := ⟨.hbm, 303, rfl⟩
abbrev main_call10_c_1 : Ref sig .tc := ⟨.hbm, 304, rfl⟩
abbrev main_call10_c_2 : Ref sig .tc := ⟨.hbm, 305, rfl⟩
abbrev main_call10_v5 : Ref sig .tc := ⟨.hbm, 306, rfl⟩
abbrev main_call10_v6 : Ref sig .tc := ⟨.hbm, 307, rfl⟩
abbrev main_call10_v7 : Ref sig .tc := ⟨.hbm, 308, rfl⟩
abbrev main_call10_v8 : Ref sig .tc := ⟨.hbm, 309, rfl⟩
abbrev main_call10_v9 : Ref sig .tc := ⟨.hbm, 310, rfl⟩
abbrev main_call10_v10 : Ref sig .tc := ⟨.hbm, 311, rfl⟩
abbrev main_call10_c_3 : Ref sig .tc := ⟨.hbm, 312, rfl⟩
abbrev main_call10_v11 : Ref sig .tc := ⟨.hbm, 313, rfl⟩
abbrev main_call10_v12 : Ref sig .tc := ⟨.hbm, 314, rfl⟩
abbrev main_call10_v13 : Ref sig .tc := ⟨.hbm, 315, rfl⟩
abbrev main_call10_cst : Ref sig .tc := ⟨.hbm, 316, rfl⟩
abbrev main_call10_v14 : Ref sig .tc := ⟨.hbm, 317, rfl⟩
abbrev main_v146 : Ref sig .tc := ⟨.hbm, 318, rfl⟩
abbrev main_cst_37 : Ref sig .tc := ⟨.hbm, 319, rfl⟩
abbrev main_v147 : Ref sig .tc := ⟨.hbm, 320, rfl⟩
abbrev main_v148 : Ref sig .tc := ⟨.hbm, 321, rfl⟩
abbrev main_v149 : Ref sig .tc := ⟨.hbm, 322, rfl⟩
abbrev main_cst_38 : Ref sig .tc := ⟨.hbm, 323, rfl⟩
abbrev main_call11_v0 : Ref sig .tc := ⟨.hbm, 324, rfl⟩
abbrev main_call11_v1 : Ref sig .tc := ⟨.hbm, 325, rfl⟩
abbrev main_call11_v2 : Ref sig .tc := ⟨.hbm, 326, rfl⟩
abbrev main_v150 : Ref sig .tc := ⟨.hbm, 327, rfl⟩
abbrev main_cst_39 : Ref sig .tc := ⟨.hbm, 328, rfl⟩
abbrev main_call12_v0 : Ref sig .tc := ⟨.hbm, 329, rfl⟩
abbrev main_call12_v1 : Ref sig .tc := ⟨.hbm, 330, rfl⟩
abbrev main_v151 : Ref sig .tc := ⟨.hbm, 331, rfl⟩

abbrev nD : Nat := 1
abbrev τ : Topo := Topo.v7x

variable {F : FTy → Type} [FloatOps F]

abbrev main_while0_count : Scf.Loop 32 := ⟨0#32, 2000#32, 1#32⟩
-- ==== Proof.Nms.lean ====
/-
  What the kernel body computes, as functions of vectors: the decoding of the boxes, one trip of the loop inside a
  chunk of 128 candidates, the suppression of the later candidates by a finished chunk, and the sixteen chunks in turn.

  Every function here is written for any carrier of floats, so both the printed program and its idealization are
  stated by it.
-/
module

public import Idealize.ShloMosaic.PureOps
public import Idealize.ShloMosaic.Lib.Exec.Context

@[expose] public section

noncomputable section

namespace Cert.Nms

open Idealize.ShloMosaic

variable {F : FTy → Type} [FloatOps F]

/-- The shapes of the vectors: a row of 2048 candidates, a chunk of 128, the 16 chunks as columns, and their products. -/
abbrev Row : Shape := ⟨2, ![1, 2048]⟩
/-- One chunk, as a row. -/
abbrev Lane : Shape := ⟨2, ![1, 128]⟩
/-- All candidates, one column per chunk. -/
abbrev Cols : Shape := ⟨2, ![128, 16]⟩
/-- One chunk, as a column. -/
abbrev Col : Shape := ⟨2, ![128, 1]⟩
/-- A chunk against all candidates. -/
abbrev Grid : Shape := ⟨2, ![128, 2048]⟩
/-- A chunk against itself. -/
abbrev Sq : Shape := ⟨2, ![128, 128]⟩
/-- One entry, with two axes. -/
abbrev One2 : Shape := ⟨2, ![1, 1]⟩
/-- One entry, with three axes. -/
abbrev One3 : Shape := ⟨3, ![1, 1, 1]⟩
/-- One entry, with one axis. -/
abbrev One1 : Shape := ⟨1, ![1]⟩
abbrev Lane3 : Shape := ⟨3, ![1, 1, 128]⟩

/-! ### Decoding -/

/-- The constant vector of a word. -/
abbrev cst (s : Shape) (w : BitVec 32) : FVec F s .f32 := broadcast s (Scalar.ofBits .f32 w)

/-- The side of an anchor, `hi - lo + 1`. -/
abbrev side {s : Shape} (lo hi : FVec F s .f32) : FVec F s .f32 := addf (subf hi lo) (cst s 0x3F800000#32)

/-- The decoded centre, `d * side + (lo + side / 2)`. -/
abbrev ctr {s : Shape} (lo hi d : FVec F s .f32) : FVec F s .f32 :=
  addf (mulf d (side lo hi)) (addf lo (mulf (cst s 0x3F000000#32) (side lo hi)))

/-- The decoded extent, `exp (min d (log (1000/16))) * side`. -/
abbrev ext {s : Shape} (lo hi d : FVec F s .f32) : FVec F s .f32 :=
  mulf (exp (minimumf d (cst s 0x40845349#32))) (side lo hi)

/-- Clipping to `[0, hi]`. -/
abbrev clip {s : Shape} (hi : BitVec 32) (v : FVec F s .f32) : FVec F s .f32 :=
  minimumf (cst s hi) (maximumf (cst s 0x00000000#32) v)

/-- The lower corner of a decoded box along one axis, clipped. -/
abbrev lower {s : Shape} (top : BitVec 32) (lo hi d e : FVec F s .f32) : FVec F s .f32 :=
  clip top (subf (ctr lo hi d) (mulf (cst s 0x3F000000#32) (ext lo hi e)))

/-- The upper corner of a decoded box along one axis, clipped. -/
abbrev upper {s : Shape} (top : BitVec 32) (lo hi d e : FVec F s .f32) : FVec F s .f32 :=
  clip top (subf (addf (ctr lo hi d) (mulf (cst s 0x3F000000#32) (ext lo hi e))) (cst s 0x3F800000#32))

/-- The boxes of a set of candidates: their four corners. -/
structure Boxes (F : FTy → Type) (s : Shape) where
  x1 : FVec F s .f32
  y1 : FVec F s .f32
  x2 : FVec F s .f32
  y2 : FVec F s .f32

/-- The decoded boxes, from the anchors' corners `a` and the regressions `r`. -/
abbrev decode {s : Shape} (a r : Fin 4 → FVec F s .f32) : Boxes F s where
  x1 := lower 0x447FC000#32 (a 0) (a 2) (r 0) (r 2)
  y1 := lower 0x4447C000#32 (a 1) (a 3) (r 1) (r 3)
  x2 := upper 0x447FC000#32 (a 0) (a 2) (r 0) (r 2)
  y2 := upper 0x4447C000#32 (a 1) (a 3) (r 1) (r 3)

/-- The area of a box. -/
abbrev Boxes.area {s : Shape} (b : Boxes F s) : FVec F s .f32 := mulf (side b.x1 b.x2) (side b.y1 b.y2)

/-! ### One trip inside a chunk -/

/-- Chunk `c` of a row starts at `128 c` and lies inside it. -/
theorem chunk_slices (c : Fin 16) : Row.Slices ![0, 128 * c.val] Lane :=
  ⟨rfl, by revert c; decide⟩

/-- The 128 entries of chunk `c` of a row. -/
def chunk {α : Type} (c : Fin 16) (v : Row.Idx → α) : Lane.Idx → α :=
  extractStridedSlice Lane ![0, 128 * c.val] v (chunk_slices c)

/-- The value of `v` at the lane where `hit` holds, as the maximum of `v` there and the word `z` elsewhere. -/
def pick (z : BitVec 32) (hit : IVec Lane 1) (v : FVec F Lane .f32) : FVec F One2 .f32 :=
  broadcast One2 (extractAt ![0, 0, 0]
    (shapeCast One3
      (multiReduction .maximumf [1, 2] One1 (shapeCast Lane3 (select hit v (cst Lane z)) (by decide)) 0xFF800000#32
        (by decide) (.inl rfl) rfl) (by decide)) (by decide))

/-- The overlap of two intervals `[lo, hi]`, `[lo', hi']` counted in whole steps. -/
abbrev overlap {s : Shape} (lo hi lo' hi' : FVec F s .f32) : FVec F s .f32 :=
  maximumf (addf (subf (minimumf hi hi') (maximumf lo lo')) (cst s 0x3F800000#32)) (cst s 0x00000000#32)

/-- The intersection area of two boxes over the area of their union. -/
abbrev iou {s : Shape} (x1 y1 x2 y2 ar x1' y1' x2' y2' ar' : FVec F s .f32) : FVec F s .f32 :=
  divf (mulf (overlap x1 x2 x1' x2') (overlap y1 y2 y1' y2'))
    (subf (addf ar ar') (mulf (overlap x1 x2 x1' x2') (overlap y1 y2 y1' y2')))

/-- Spread a one-element vector over the lanes. -/
abbrev spread {α : Type} (v : One2.Idx → α) : Lane.Idx → α := broadcastTo Lane v (by decide)

/-- One trip: candidate `k` of the chunk, if it is still kept, drops every later candidate that overlaps it too much. -/
def trip (lane : IVec Lane 32) (x1 y1 x2 y2 ar : FVec F Lane .f32) (k : BitVec 32) (kc : FVec F Lane .f32) :
    FVec F Lane .f32 :=
  mulf kc (select
    (andi (andi
      (cmpf .ogt (iou x1 y1 x2 y2 ar
        (spread (pick 0xF149F2CA#32 (cmpi .eq lane (broadcast Lane k)) x1))
        (spread (pick 0xF149F2CA#32 (cmpi .eq lane (broadcast Lane k)) y1))
        (spread (pick 0xF149F2CA#32 (cmpi .eq lane (broadcast Lane k)) x2))
        (spread (pick 0xF149F2CA#32 (cmpi .eq lane (broadcast Lane k)) y2))
        (spread (pick 0xF149F2CA#32 (cmpi .eq lane (broadcast Lane k)) ar))) (cst Lane 0x3F333333#32))
      (cmpi .sgt lane (broadcast Lane k)))
      (spread (cmpf .ogt (pick 0x00000000#32 (cmpi .eq lane (broadcast Lane k)) kc) (cst One2 0x3F000000#32))))
    (cst Lane 0x00000000#32) (cst Lane 0x3F800000#32))

/-- The bounds of the loop over a chunk. -/
@[reducible] def loop : Scf.Loop 32 := ⟨0#32, Scalar.addi 0#32 128#32, 1#32⟩

/-- The 128 trips over a chunk, from its flags `kc`; trip `k` looks at candidate `start + k * step`. -/
def intraFrom (start step : BitVec 32) (lane : IVec Lane 32) (x1 y1 x2 y2 ar kc : FVec F Lane .f32) :
    FVec F Lane .f32 :=
  Scf.fold (n := loop.trips) (fun k acc => trip lane x1 y1 x2 y2 ar (Scf.iv start step k) acc) kc

/-- The 128 trips over a chunk, from its flags `kc`. -/
abbrev intra (lane : IVec Lane 32) (x1 y1 x2 y2 ar kc : FVec F Lane .f32) : FVec F Lane .f32 :=
  intraFrom 0#32 1#32 lane x1 y1 x2 y2 ar kc

/-! ### A finished chunk and the later candidates -/

/-- Entry `c` of each of the 128 rows of the transposed boxes: the column of chunk `c`. -/
def col {α : Type} (c : Fin 16) (v : Cols.Idx → α) : Col.Idx → α :=
  extractStridedSlice Col ![0, c.val] v ⟨rfl, by revert c; decide⟩

/-- A row repeated down the 128 rows of the grid. -/
abbrev down {α : Type} (v : Row.Idx → α) : Grid.Idx → α := broadcastTo Grid v (by decide)

/-- A column repeated along the 2048 lanes of the grid. -/
abbrev along {α : Type} (v : Col.Idx → α) : Grid.Idx → α := broadcastTo Grid v (by decide)

/-- The flags of a chunk, turned from a row into a column by a masked maximum. -/
def turn (diag : IVec Sq 1) (kc : FVec F Lane .f32) : FVec F Col .f32 :=
  shapeCast Col (multiReduction .maximumf [1] ⟨1, ![128]⟩
    (select (andi diag (broadcastTo Sq (cmpf .ogt kc (cst Lane 0x3F000000#32)) (by decide)))
      (cst Sq 0x3F800000#32) (cst Sq 0x00000000#32)) 0xFF800000#32 (by decide) (.inl rfl) rfl) (by decide)

/-- Which candidate (lane) is dropped by which of the chunk's 128 candidates (row): the overlap is too big, the
    candidate lies past the chunk, and the chunk's candidate is kept. -/
def drops (glob : IVec Row 32) (diag : IVec Sq 1) (b : Boxes F Row) (ar : FVec F Row .f32) (t : Boxes F Cols)
    (art : FVec F Cols .f32) (c : Fin 16) (hi : BitVec 32) (kc : FVec F Lane .f32) : FVec F Grid .f32 :=
  select
    (andi (andi
      (cmpf .ogt (iou (down b.x1) (down b.y1) (down b.x2) (down b.y2) (down ar)
        (along (col c t.x1)) (along (col c t.y1)) (along (col c t.x2)) (along (col c t.y2)) (along (col c art)))
        (cst Grid 0x3F333333#32))
      (down (cmpi .sge glob (broadcast Row hi))))
      (along (cmpf .ogt (turn diag kc) (cst Col 0x3F000000#32))))
    (cst Grid 0x3F800000#32) (cst Grid 0x00000000#32)

/-- 0 at the candidates some row drops, 1 elsewhere. -/
def survive (d : FVec F Grid .f32) : FVec F Row .f32 :=
  select (cmpf .ogt (shapeCast Row (multiReduction .maximumf [0] ⟨1, ![2048]⟩ d 0xFF800000#32 (by decide) (.inl rfl) rfl)
    (by decide)) (cst Row 0x3F000000#32)) (cst Row 0x00000000#32) (cst Row 0x3F800000#32)

/-- The row `v` with its first chunk replaced. -/
def placeFirst {α : Type} (v : Row.Idx → α) (kc : Lane.Idx → α) : Row.Idx → α :=
  concatenate Row 1 [⟨Lane, kc⟩, ⟨⟨2, ![1, 1920]⟩, extractStridedSlice ⟨2, ![1, 1920]⟩ ![0, 128] v (by decide)⟩]
    (show Shape.Concatenates [Lane, ⟨2, ![1, 1920]⟩] Row 1 by decide)

/-- The row `v` with its last chunk replaced. -/
def placeLast {α : Type} (v : Row.Idx → α) (kc : Lane.Idx → α) : Row.Idx → α :=
  concatenate Row 1 [⟨⟨2, ![1, 1920]⟩, extractStridedSlice ⟨2, ![1, 1920]⟩ ![0, 0] v (by decide)⟩, ⟨Lane, kc⟩]
    (show Shape.Concatenates [⟨2, ![1, 1920]⟩, Lane] Row 1 by decide)

/-- The row `v` with a chunk replaced that leaves `p` entries before it and `q` after. -/
def placeMid {α : Type} (p q : Nat) (hp : Row.Slices ![0, 0] ⟨2, ![1, p]⟩) (hq : Row.Slices ![0, p + 128] ⟨2, ![1, q]⟩)
    (h : Shape.Concatenates [⟨2, ![1, p]⟩, Lane, ⟨2, ![1, q]⟩] Row 1) (v : Row.Idx → α) (kc : Lane.Idx → α) : Row.Idx → α :=
  concatenate Row 1 [⟨⟨2, ![1, p]⟩, extractStridedSlice ⟨2, ![1, p]⟩ ![0, 0] v hp⟩, ⟨Lane, kc⟩,
    ⟨⟨2, ![1, q]⟩, extractStridedSlice ⟨2, ![1, q]⟩ ![0, p + 128] v hq⟩] h

/-- What the body holds when the chunks begin: the boxes as rows and transposed, their areas, and the index vectors. -/
structure Ctx (F : FTy → Type) where
  row : Boxes F Row
  area : FVec F Row .f32
  cols : Boxes F Cols
  areaT : FVec F Cols .f32
  lane : IVec Lane 32
  glob : IVec Row 32
  diag : IVec Sq 1

variable (x : Ctx F)

/-- The flags of chunk `c` after its own trips. -/
def chunkFlags (c : Fin 16) (keep : FVec F Row .f32) : FVec F Lane .f32 :=
  intra x.lane (chunk c x.row.x1) (chunk c x.row.y1) (chunk c x.row.x2) (chunk c x.row.y2) (chunk c x.area) (chunk c keep)

/-- The flags after chunk `c`: its own replaced (`placed`), those a kept candidate of it drops set to 0. -/
def after (c : Fin 16) (hi : BitVec 32) (placed : FVec F Row .f32) (kc : FVec F Lane .f32) : FVec F Row .f32 :=
  mulf placed (survive (drops x.glob x.diag x.row x.area x.cols x.areaT c hi kc))

/-- The first chunk. -/
def first (keep : FVec F Row .f32) : FVec F Row .f32 :=
  after x 0 128#32 (placeFirst keep (chunkFlags x 0 keep)) (chunkFlags x 0 keep)

/-- The last chunk. -/
def last (keep : FVec F Row .f32) : FVec F Row .f32 :=
  after x 15 2048#32 (placeLast keep (chunkFlags x 15 keep)) (chunkFlags x 15 keep)

/-- A chunk between them. -/
def middle (c : Fin 16) (p q : Nat) (hi : BitVec 32) (hp : Row.Slices ![0, 0] ⟨2, ![1, p]⟩)
    (hq : Row.Slices ![0, p + 128] ⟨2, ![1, q]⟩) (h : Shape.Concatenates [⟨2, ![1, p]⟩, Lane, ⟨2, ![1, q]⟩] Row 1)
    (keep : FVec F Row .f32) : FVec F Row .f32 :=
  after x c hi (placeMid p q hp hq h keep (chunkFlags x c keep)) (chunkFlags x c keep)

/-- The flags when `n` chunks are done. -/
def flags : Nat → FVec F Row .f32
  | 0 => cst Row 0x3F800000#32
  | 1 => first x (flags 0)
  | 2 => middle x 1 128 1792 256#32 (by decide) (by decide) (by decide) (flags 1)
  | 3 => middle x 2 256 1664 384#32 (by decide) (by decide) (by decide) (flags 2)
  | 4 => middle x 3 384 1536 512#32 (by decide) (by decide) (by decide) (flags 3)
  | 5 => middle x 4 512 1408 640#32 (by decide) (by decide) (by decide) (flags 4)
  | 6 => middle x 5 640 1280 768#32 (by decide) (by decide) (by decide) (flags 5)
  | 7 => middle x 6 768 1152 896#32 (by decide) (by decide) (by decide) (flags 6)
  | 8 => middle x 7 896 1024 1024#32 (by decide) (by decide) (by decide) (flags 7)
  | 9 => middle x 8 1024 896 1152#32 (by decide) (by decide) (by decide) (flags 8)
  | 10 => middle x 9 1152 768 1280#32 (by decide) (by decide) (by decide) (flags 9)
  | 11 => middle x 10 1280 640 1408#32 (by decide) (by decide) (by decide) (flags 10)
  | 12 => middle x 11 1408 512 1536#32 (by decide) (by decide) (by decide) (flags 11)
  | 13 => middle x 12 1536 384 1664#32 (by decide) (by decide) (by decide) (flags 12)
  | 14 => middle x 13 1664 256 1792#32 (by decide) (by decide) (by decide) (flags 13)
  | 15 => middle x 14 1792 128 1920#32 (by decide) (by decide) (by decide) (flags 14)
  | 16 => last x (flags 15)
  | n + 17 => flags (n + 16)

/-! ### The body's two results -/

/-- Row `k` of a block of four rows. -/
def part {α : Type} (k : Fin 4) (v : (⟨3, ![1, 4, 2048]⟩ : Shape).Idx → α) : Row.Idx → α :=
  extractStridedSlice Row ![k.val, 0] (shapeCast ⟨2, ![4, 2048]⟩ v (by decide)) ⟨rfl, by revert k; decide⟩

/-- Plane `k` of a block of four transposed planes. -/
def partT {α : Type} (k : Fin 4) (v : (⟨4, ![1, 4, 128, 16]⟩ : Shape).Idx → α) : Cols.Idx → α :=
  shapeCast Cols (extractStridedSlice ⟨3, ![1, 128, 16]⟩ ![k.val, 0, 0] (shapeCast ⟨3, ![4, 128, 16]⟩ v (by decide))
    ⟨rfl, by revert k; decide⟩) (by decide)

/-- What the body holds when the chunks begin, from the blocks of the anchors and the regressions. -/
def ctx (a r : FVec F ⟨3, ![1, 4, 2048]⟩ .f32) (aT rT : FVec F ⟨4, ![1, 4, 128, 16]⟩ .f32) : Ctx F where
  row := decode (part · a) (part · r)
  area := (decode (part · a) (part · r)).area
  cols := decode (partT · aT) (partT · rT)
  areaT := (decode (partT · aT) (partT · rT)).area
  lane := iota .tc Lane 32 [1] (by decide)
  glob := iota .tc Row 32 [1] (by decide)
  diag := cmpi .eq (iota .tc Sq 32 [0] (by decide)) (iota .tc Sq 32 [1] (by decide))

/-- The boxes of non-negative sides. -/
def proper (b : Boxes F Row) : IVec Row 1 :=
  andi (cmpf .oge (side b.x1 b.x2) (cst Row 0x00000000#32)) (cmpf .oge (side b.y1 b.y2) (cst Row 0x00000000#32))

/-- The score of each candidate that is kept and of non-negative sides, the word of -1e9 for the others. -/
def scores (s : FVec F ⟨3, ![1, 1, 2048]⟩ .f32) : FVec F ⟨3, ![1, 1, 2048]⟩ .f32 :=
  shapeCast _ (select (andi (cmpf .ogt (flags x 16) (cst Row 0x3F000000#32)) (proper x.row))
    (shapeCast Row s (by decide)) (cst Row 0xCE6E6B28#32)) (by decide)

/-- The four corners, one row each. -/
def corners (b : Boxes F Row) : FVec F ⟨3, ![1, 4, 2048]⟩ .f32 :=
  shapeCast _ (concatenate ⟨2, ![4, 2048]⟩ 0 [⟨Row, b.x1⟩, ⟨Row, b.y1⟩, ⟨Row, b.x2⟩, ⟨Row, b.y2⟩]
    (show Shape.Concatenates [Row, Row, Row, Row] ⟨2, ![4, 2048]⟩ 0 by decide)) (by decide)

end Cert.Nms

end
-- ==== Proof.KI.Loops.lean ====
/-
  The sixteen loops of the kernel body, each as the fold `Nms.intra` over its chunk: the region of a loop touches no
  memory, and one trip of it is `Nms.trip`.
-/
module

public import proofs.«01_k».proof.Proof.Nms
public import proofs.«01_k».proof.Proof.Gen.KernelIdeal.Skeleton

@[expose] public section

set_option maxRecDepth 65536

noncomputable section

namespace Cert.KernelIdeal.Body

open Cert.KernelIdeal Cert.KernelIdeal.Gen Cert.Nms
open Idealize.ShloMosaic Idealize.ShloMosaic.TcCoe Idealize.SL.Sem

variable {F : FTy → Type} [FloatOps F]

variable (i : grid0.Coords) (arg1 : Memref sig .tc .vmem S1x1x2048 .f32) (harg1 : arg1.IsWhole) (arg2 : Memref sig .tc .vmem S1x4x2048 .f32) (harg2 : arg2.IsWhole) (arg3 : Memref sig .tc .vmem S1x4x2048 .f32) (harg3 : arg3.IsWhole) (arg4 : Memref sig .tc .vmem S1x4x128x16 .f32) (harg4 : arg4.IsWhole) (arg5 : Memref sig .tc .vmem S1x4x128x16 .f32) (harg5 : arg5.IsWhole) (arg6 : Memref sig .tc .vmem S1x1x2048 .f32) (harg6 : arg6.IsWhole) (arg7 : Memref sig .tc .vmem S1x4x2048 .f32) (harg7 : arg7.IsWhole)

variable (v44 v51 v60 v69 v157 v170 v311 v317 v391 v539 v687 v826 v835 v909 v1057 v1199 v1205 : FVec F S1x2048 .f32)
variable (v120 v127 v136 v145 v164 : FVec F S128x16 .f32)
variable (v165 : IVec S1x128 32)
variable (v169 : IVec S128x128 1)
variable (v171 v172 v173 v174 v178 v325 v399 v540 v541 v542 v543 v544 v545 v547 v695 v769 v843 v917 v1058 v1059 v1060 v1061 v1062 v1065 v1213 : FVec F S1x128 .f32)
variable (v166 : IVec S1x2048 32)
variable (v187 v334 v339 v556 v704 v852 v857 v1074 v1222 v1227 : FVec F S128x1 .f32)
variable (v220 v221 v350 v359 v360 v454 v732 v735 v868 v875 v1238 v1247 v1248 : FVec F S128x2048 .f32)
variable (v313 v1201 : IVec S1x2048 1)
variable (cst_98 cst_338 : F .f32)
variable (c0_i32_160 c1_i32_162 : BitVec 32)
variable (v595 v969 v1109 : IVec S128x2048 1)
variable (v827 : FVec F S1x1024 .f32)
variable (v828 : FVec F S1x896 .f32)

/-- A loop whose region is `Nms.trip` at every trip is the fold `Nms.intraFrom`. -/
theorem loop_intra (start step : BitVec 32) (ok : Nms.loop.OK) (init : FVec F S1x128 .f32) (x1 y1 x2 y2 ar : FVec F S1x128 .f32)
    (body : Fin Nms.loop.trips → FVec F S1x128 .f32 → Prog (TpuEff nD τ sig (Elt F) Λ₀ .tc) (FVec F S1x128 .f32))
    (h : ∀ k acc, body k acc = .ret (trip v165 x1 y1 x2 y2 ar (Scf.iv start step k) acc)) :
    Scf.Loop.for Nms.loop ok init body = pure (intraFrom start step v165 x1 y1 x2 y2 ar init) :=
  Scf.for_pure _ _ _ ok init body _ h

/-- The trips over chunk 0. -/
theorem loop_t1 (init : FVec F S1x128 .f32) :
    Scf.Loop.for k0_t1_loop k0_t1_ok init (k0_t1_body i arg1 harg1 arg2 harg2 arg3 harg3 arg4 harg4 arg5 harg5 arg6 harg6 arg7 harg7
      v44 v51 v60 v69 v120 v127 v136 v145 v157 v164 v165 v169 v170 v171 v172 v173 v174) =
      pure (intra v165 v171 v172 v173 v174 (chunk 0 v157) init) :=
  loop_intra v165 0#32 1#32 k0_t1_ok init _ _ _ _ _ _ fun _ _ => rfl

/-- The trips over chunk 1. -/
theorem loop_t2 (init : FVec F S1x128 .f32) :
    Scf.Loop.for k0_t2_loop k0_t2_ok init (k0_t2_body i arg1 harg1 arg2 harg2 arg3 harg3 arg4 harg4 arg5 harg5 arg6 harg6 arg7 harg7
      v44 v51 v60 v69 v120 v127 v136 v145 v157 v164 v165 v166 v169 v170 v178 v187 v220 v221) =
      pure (intra v165 (chunk 1 v44) (chunk 1 v51) (chunk 1 v60) (chunk 1 v69) (chunk 1 v157) init) :=
  loop_intra v165 0#32 1#32 k0_t2_ok init _ _ _ _ _ _ fun _ _ => rfl

/-- The trips over chunk 2. -/
theorem loop_t3 (init : FVec F S1x128 .f32) :
    Scf.Loop.for k0_t3_loop k0_t3_ok init (k0_t3_body i arg1 harg1 arg2 harg2 arg3 harg3 arg4 harg4 arg5 harg5 arg6 harg6 arg7 harg7
      v44 v51 v60 v69 v120 v127 v136 v145 v157 v164 v165 v169 v311 v313 cst_98) =
      pure (intra v165 (chunk 2 v44) (chunk 2 v51) (chunk 2 v60) (chunk 2 v69) (chunk 2 v157) init) :=
  loop_intra v165 0#32 1#32 k0_t3_ok init _ _ _ _ _ _ fun _ _ => rfl

/-- The trips over chunk 3. -/
theorem loop_t4 (init : FVec F S1x128 .f32) :
    Scf.Loop.for k0_t4_loop k0_t4_ok init (k0_t4_body i arg1 harg1 arg2 harg2 arg3 harg3 arg4 harg4 arg5 harg5 arg6 harg6 arg7 harg7
      v44 v51 v60 v69 v157 v165 v166 v169 v317 v325 v334 v339 v350 v359 v360) =
      pure (intra v165 (chunk 3 v44) (chunk 3 v51) (chunk 3 v60) (chunk 3 v69) (chunk 3 v157) init) :=
  loop_intra v165 0#32 1#32 k0_t4_ok init _ _ _ _ _ _ fun _ _ => rfl

/-- The trips over chunk 4. -/
theorem loop_t5 (init : FVec F S1x128 .f32) :
    Scf.Loop.for k0_t5_loop k0_t5_ok init (k0_t5_body i arg1 harg1 arg2 harg2 arg3 harg3 arg4 harg4 arg5 harg5 arg6 harg6 arg7 harg7
      v44 v51 v60 v69 v120 v127 v136 v145 v157 v164 v165 v169 v391 v399 v454) =
      pure (intra v165 (chunk 4 v44) (chunk 4 v51) (chunk 4 v60) (chunk 4 v69) (chunk 4 v157) init) :=
  loop_intra v165 0#32 1#32 k0_t5_ok init _ _ _ _ _ _ fun _ _ => rfl

/-- The trips over chunk 5. -/
theorem loop_t6 (init : FVec F S1x128 .f32) :
    Scf.Loop.for k0_t6_loop k0_t6_ok init (k0_t6_body i arg1 harg1 arg2 harg2 arg3 harg3 arg4 harg4 arg5 harg5 arg6 harg6 arg7 harg7
      v44 v51 v60 v69 v120 v127 v136 v145 v157 v164 v165 v166 v169 v540 v541 v542 v543 v544 v545 c0_i32_160 c1_i32_162) =
      pure (intraFrom c0_i32_160 c1_i32_162 v165 v540 v541 v542 v543 v544 init) :=
  loop_intra v165 c0_i32_160 c1_i32_162 k0_t6_ok init _ _ _ _ _ _ fun _ _ => rfl

/-- The trips over chunk 6. -/
theorem loop_t7 (init : FVec F S1x128 .f32) :
    Scf.Loop.for k0_t7_loop k0_t7_ok init (k0_t7_body i arg1 harg1 arg2 harg2 arg3 harg3 arg4 harg4 arg5 harg5 arg6 harg6 arg7 harg7
      v44 v51 v60 v69 v120 v127 v136 v145 v157 v164 v165 v169 v539 v547 v556 v595) =
      pure (intra v165 (chunk 6 v44) (chunk 6 v51) (chunk 6 v60) (chunk 6 v69) (chunk 6 v157) init) :=
  loop_intra v165 0#32 1#32 k0_t7_ok init _ _ _ _ _ _ fun _ _ => rfl

/-- The trips over chunk 7. -/
theorem loop_t8 (init : FVec F S1x128 .f32) :
    Scf.Loop.for k0_t8_loop k0_t8_ok init (k0_t8_body i arg1 harg1 arg2 harg2 arg3 harg3 arg4 harg4 arg5 harg5 arg6 harg6 arg7 harg7
      v44 v51 v60 v69 v120 v127 v136 v145 v157 v164 v165 v169 v687) =
      pure (intra v165 (chunk 7 v44) (chunk 7 v51) (chunk 7 v60) (chunk 7 v69) (chunk 7 v157) init) :=
  loop_intra v165 0#32 1#32 k0_t8_ok init _ _ _ _ _ _ fun _ _ => rfl

/-- The trips over chunk 8. -/
theorem loop_t9 (init : FVec F S1x128 .f32) :
    Scf.Loop.for k0_t9_loop k0_t9_ok init (k0_t9_body i arg1 harg1 arg2 harg2 arg3 harg3 arg4 harg4 arg5 harg5 arg6 harg6 arg7 harg7
      v44 v51 v60 v69 v157 v165 v166 v169 v687 v695 v704 v732 v735) =
      pure (intra v165 (chunk 8 v44) (chunk 8 v51) (chunk 8 v60) (chunk 8 v69) (chunk 8 v157) init) :=
  loop_intra v165 0#32 1#32 k0_t9_ok init _ _ _ _ _ _ fun _ _ => rfl

/-- The trips over chunk 9. -/
theorem loop_t10 (init : FVec F S1x128 .f32) :
    Scf.Loop.for k0_t10_loop k0_t10_ok init (k0_t10_body i arg1 harg1 arg2 harg2 arg3 harg3 arg4 harg4 arg5 harg5 arg6 harg6 arg7 harg7
      v44 v51 v60 v69 v120 v127 v136 v145 v157 v164 v165 v169 v769 v826 v827 v828) =
      pure (intra v165 (chunk 9 v44) (chunk 9 v51) (chunk 9 v60) (chunk 9 v69) (chunk 9 v157) init) :=
  loop_intra v165 0#32 1#32 k0_t10_ok init _ _ _ _ _ _ fun _ _ => rfl

/-- The trips over chunk 10. -/
theorem loop_t11 (init : FVec F S1x128 .f32) :
    Scf.Loop.for k0_t11_loop k0_t11_ok init (k0_t11_body i arg1 harg1 arg2 harg2 arg3 harg3 arg4 harg4 arg5 harg5 arg6 harg6 arg7 harg7
      v44 v51 v60 v69 v157 v165 v166 v835 v843 v852 v857 v868 v875) =
      pure (intra v165 (chunk 10 v44) (chunk 10 v51) (chunk 10 v60) (chunk 10 v69) (chunk 10 v157) init) :=
  loop_intra v165 0#32 1#32 k0_t11_ok init _ _ _ _ _ _ fun _ _ => rfl

/-- The trips over chunk 11. -/
theorem loop_t12 (init : FVec F S1x128 .f32) :
    Scf.Loop.for k0_t12_loop k0_t12_ok init (k0_t12_body i arg1 harg1 arg2 harg2 arg3 harg3 arg4 harg4 arg5 harg5 arg6 harg6 arg7 harg7
      v44 v51 v60 v69 v120 v127 v136 v145 v157 v164 v165 v169 v909 v917 v969) =
      pure (intra v165 (chunk 11 v44) (chunk 11 v51) (chunk 11 v60) (chunk 11 v69) (chunk 11 v157) init) :=
  loop_intra v165 0#32 1#32 k0_t12_ok init _ _ _ _ _ _ fun _ _ => rfl

/-- The trips over chunk 12. -/
theorem loop_t13 (init : FVec F S1x128 .f32) :
    Scf.Loop.for k0_t13_loop k0_t13_ok init (k0_t13_body i arg1 harg1 arg2 harg2 arg3 harg3 arg4 harg4 arg5 harg5 arg6 harg6 arg7 harg7
      v44 v51 v60 v69 v120 v127 v136 v145 v157 v164 v165 v169 v1057 v1058 v1059 v1060 v1061 v1062) =
      pure (intra v165 v1058 v1059 v1060 v1061 v1062 init) :=
  loop_intra v165 0#32 1#32 k0_t13_ok init _ _ _ _ _ _ fun _ _ => rfl

/-- The trips over chunk 13. -/
theorem loop_t14 (init : FVec F S1x128 .f32) :
    Scf.Loop.for k0_t14_loop k0_t14_ok init (k0_t14_body i arg1 harg1 arg2 harg2 arg3 harg3 arg4 harg4 arg5 harg5 arg6 harg6 arg7 harg7
      v44 v51 v60 v69 v120 v127 v136 v145 v157 v164 v165 v166 v169 v1057 v1065 v1074 v1109) =
      pure (intra v165 (chunk 13 v44) (chunk 13 v51) (chunk 13 v60) (chunk 13 v69) (chunk 13 v157) init) :=
  loop_intra v165 0#32 1#32 k0_t14_ok init _ _ _ _ _ _ fun _ _ => rfl

/-- The trips over chunk 14. -/
theorem loop_t15 (init : FVec F S1x128 .f32) :
    Scf.Loop.for k0_t15_loop k0_t15_ok init (k0_t15_body i arg1 harg1 arg2 harg2 arg3 harg3 arg4 harg4 arg5 harg5 arg6 harg6 arg7 harg7
      v44 v51 v60 v69 v120 v127 v136 v145 v157 v164 v165 v169 v1199 v1201 cst_338) =
      pure (intra v165 (chunk 14 v44) (chunk 14 v51) (chunk 14 v60) (chunk 14 v69) (chunk 14 v157) init) :=
  loop_intra v165 0#32 1#32 k0_t15_ok init _ _ _ _ _ _ fun _ _ => rfl

/-- The trips over chunk 15. -/
theorem loop_t16 (init : FVec F S1x128 .f32) :
    Scf.Loop.for k0_t16_loop k0_t16_ok init (k0_t16_body i arg1 harg1 arg2 harg2 arg3 harg3 arg4 harg4 arg5 harg5 arg6 harg6 arg7 harg7
      v44 v51 v60 v69 v157 v165 v166 v169 v1205 v1213 v1222 v1227 v1238 v1247 v1248) =
      pure (intra v165 (chunk 15 v44) (chunk 15 v51) (chunk 15 v60) (chunk 15 v69) (chunk 15 v157) init) :=
  loop_intra v165 0#32 1#32 k0_t16_ok init _ _ _ _ _ _ fun _ _ => rfl

end Cert.KernelIdeal.Body

end
-- ==== Proof.KI.Body.lean ====
/-
  The kernel body of the idealized program: what one grid point leaves in the two output buffers.

  The body is run from its skeleton; its sixteen counted loops touch no memory, so each is stepped as the fold of its
  region. The flags after each chunk are then recognised, chunk by chunk, as `Cert.Nms.flags`.
-/
module

public import proofs.«01_k».proof.Proof.Gen.KernelIdeal
public import proofs.«01_k».proof.Proof.Gen.KernelIdeal.Skeleton
public import proofs.«01_k».proof.Proof.KI.Loops
public import proofs.«01_k».proof.Proof.Gen.KernelIdeal.Frame

@[expose] public section

set_option maxRecDepth 65536

noncomputable section

namespace Cert.KernelIdeal.Body

open Cert.KernelIdeal Cert.KernelIdeal.Gen Cert.Nms
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through. -/
abbrev r0_0 : Rect S1x1x2048 := Rect.unit (s := S1x1x2048) ![0, 0, 0] S1x1x2048.size inb_S1x1x2048_S1x1x2048_0_0_0
/-- The whole buffer of anchors or regressions by row, and of the boxes. -/
abbrev r0_1 : Rect S1x4x2048 := Rect.unit (s := S1x4x2048) ![0, 0, 0] S1x4x2048.size inb_S1x4x2048_S1x4x2048_0_0_0
/-- The whole buffer of anchors or regressions by column. -/
abbrev r0_2 : Rect S1x4x128x16 := Rect.unit (s := S1x4x128x16) ![0, 0, 0, 0] S1x4x128x16.size inb_S1x4x128x16_S1x4x128x16_0_0_0_0

/-- The one store of the scores writes their whole buffer. -/
theorem cover0_5 (p0 : Vec F S1x1x2048 .f32) (y : S1x1x2048.Idx) :
    ∃ pc ∈ ([⟨r0_0, p0⟩] : List (View.Piece (Elt F) S1x1x2048 .f32)), y ∈ pc.1.set :=
  View.cover_of_tiled [⟨r0_0, p0⟩] S1x1x2048.size (by rfl) y

/-- The one store of the boxes writes their whole buffer. -/
theorem cover0_6 (p0 : Vec F S1x4x2048 .f32) (y : S1x4x2048.Idx) :
    ∃ pc ∈ ([⟨r0_1, p0⟩] : List (View.Piece (Elt F) S1x4x2048 .f32)), y ∈ pc.1.set :=
  View.cover_of_tiled [⟨r0_1, p0⟩] S1x4x2048.size (by rfl) y

/-- What the body leaves in the buffer of the scores, from the five input blocks. -/
def out0_5 (x0 : Vec F S1x1x2048 .f32) (x1 x2 : Vec F S1x4x2048 .f32) (x3 x4 : Vec F S1x4x128x16 .f32) :
    Vec F S1x1x2048 .f32 :=
  View.canon [⟨r0_0, Nms.scores (Nms.ctx (View.ld x1 r0_1) (View.ld x2 r0_1) (View.ld x3 r0_2) (View.ld x4 r0_2)) (View.ld x0 r0_0)⟩]

/-- What the body leaves in the buffer of the boxes. -/
def out0_6 (x0 : Vec F S1x1x2048 .f32) (x1 x2 : Vec F S1x4x2048 .f32) (x3 x4 : Vec F S1x4x128x16 .f32) :
    Vec F S1x4x2048 .f32 :=
  View.canon [⟨r0_1, Nms.corners (Nms.ctx (View.ld x1 r0_1) (View.ld x2 r0_1) (View.ld x3 r0_2) (View.ld x4 r0_2)).row⟩]

set_option maxHeartbeats 1000000 in
/-- The body, run: the inputs' buffers keep their blocks, the outputs' hold `out0_5` and `out0_6` of them. -/
theorem sound_kernel (c : Dev nD) (E : Set ℕ) (i : grid0.Coords) (arg1 : Memref sig .tc .vmem S1x1x2048 .f32) (harg1 : arg1.IsWhole) (arg2 : Memref sig .tc .vmem S1x4x2048 .f32) (harg2 : arg2.IsWhole) (arg3 : Memref sig .tc .vmem S1x4x2048 .f32) (harg3 : arg3.IsWhole) (arg4 : Memref sig .tc .vmem S1x4x128x16 .f32) (harg4 : arg4.IsWhole) (arg5 : Memref sig .tc .vmem S1x4x128x16 .f32) (harg5 : arg5.IsWhole) (arg6 : Memref sig .tc .vmem S1x1x2048 .f32) (harg6 : arg6.IsWhole) (arg7 : Memref sig .tc .vmem S1x4x2048 .f32) (harg7 : arg7.IsWhole)
    (x0 : Vec F S1x1x2048 .f32) (x1 : Vec F S1x4x2048 .f32) (x2 : Vec F S1x4x2048 .f32) (x3 : Vec F S1x4x128x16 .f32) (x4 : Vec F S1x4x128x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__nms_body i arg1 harg1 arg2 harg2 arg3 harg3 arg4 harg4 arg5 harg5 arg6 harg6 arg7 harg7) K := by
  simp only [cc0__nms_body_eq_skeleton]; unfold cc0__nms_body_skel
  simp only [k0_part46_eq_skeleton]; unfold k0_part46_skel
  simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec; rw [loop_t1]
  sl_exec; rw [loop_t2]
  sl_exec; rw [loop_t3]
  sl_exec; rw [loop_t4]
  sl_exec; rw [loop_t5]
  sl_exec; rw [loop_t6]
  sl_exec; rw [loop_t7]
  sl_exec; rw [loop_t8]
  sl_exec; rw [loop_t9]
  sl_exec; rw [loop_t10]
  sl_exec; rw [loop_t11]
  sl_exec; rw [loop_t12]
  sl_exec; rw [loop_t13]
  sl_exec; rw [loop_t14]
  sl_exec; rw [loop_t15]
  sl_exec; rw [loop_t16]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _)).trans ?_
    obtain ⟨X, hX⟩ : ∃ X, X = Nms.ctx (View.ld (View.read (Elt F) arg2.view f1) r0_1) (View.ld (View.read (Elt F) arg3.view f2) r0_1)
      (View.ld (View.read (Elt F) arg4.view f3) r0_2) (View.ld (View.read (Elt F) arg5.view f4) r0_2) := ⟨_, rfl⟩
    have b6 : sound_kernel.sl.r_6 c arg2 arg3 f1 f2 = X.row.x1 := by rw [hX]; rfl
    have b7 : sound_kernel.sl.r_7 c arg2 arg3 f1 f2 = X.row.y1 := by rw [hX]; rfl
    have b8 : sound_kernel.sl.r_8 c arg2 arg3 f1 f2 = X.row.x2 := by rw [hX]; rfl
    have b9 : sound_kernel.sl.r_9 c arg2 arg3 f1 f2 = X.row.y2 := by rw [hX]; rfl
    have b19 : sound_kernel.sl.r_19 c arg4 arg5 f3 f4 = X.cols.x1 := by rw [hX]; rfl
    have b20 : sound_kernel.sl.r_20 c arg4 arg5 f3 f4 = X.cols.y1 := by rw [hX]; rfl
    have b21 : sound_kernel.sl.r_21 c arg4 arg5 f3 f4 = X.cols.x2 := by rw [hX]; rfl
    have b22 : sound_kernel.sl.r_22 c arg4 arg5 f3 f4 = X.cols.y2 := by rw [hX]; rfl
    have b23 : sound_kernel.sl.r_23 c arg2 arg3 f1 f2 = Nms.proper X.row := by rw [hX]; rfl
    have b24 : sound_kernel.sl.r_24 c arg2 arg3 f1 f2 = X.area := by rw [hX]; rfl
    have b25 : sound_kernel.sl.r_25 c arg4 arg5 f3 f4 = X.areaT := by rw [hX]; rfl
    have v165 : sound_kernel.sl.v165 = X.lane := by rw [hX]; rfl
    have v166 : sound_kernel.sl.v166 = X.glob := by rw [hX]; rfl
    have v169 : k0_pay152 = X.diag := by rw [hX]; rfl
    have e1 : sound_kernel.sl.r_33 c arg2 arg3 arg4 arg5 f1 f2 f3 f4 = Nms.flags X 1 := by
      change _ = Nms.first X (Nms.flags X 0)
      delta sound_kernel.sl.r_33 sound_kernel.sl.r_32 sound_kernel.sl.r_31 sound_kernel.sl.r_30 sound_kernel.sl.r_29 sound_kernel.sl.r_28 sound_kernel.sl.r_27 sound_kernel.sl.r_26
      simp only [b6, b7, b8, b9, b19, b20, b21, b22, b23, b24, b25, v165, v166, v169]
      rfl
    have p1 := e1
    unfold sound_kernel.sl.r_33 at p1
    have e2 : sound_kernel.sl.r_43 c arg2 arg3 arg4 arg5 f1 f2 f3 f4 = Nms.flags X 2 := by
      change _ = Nms.middle X 1 128 1792 256#32 (by decide) (by decide) (by decide) (Nms.flags X 1)
      delta sound_kernel.sl.r_43 sound_kernel.sl.r_42 sound_kernel.sl.r_41 sound_kernel.sl.r_40 sound_kernel.sl.r_39 sound_kernel.sl.r_38 sound_kernel.sl.r_37 sound_kernel.sl.r_36 sound_kernel.sl.r_35 sound_kernel.sl.r_34
      simp only [k0_pay170, p1, e1]
      simp only [b6, b7, b8, b9, b19, b20, b21, b22, b23, b24, b25, v165, v166, v169]
      rfl
    have p2 := e2
    unfold sound_kernel.sl.r_43 at p2
    have e3 : sound_kernel.sl.r_49 c arg2 arg3 arg4 arg5 f1 f2 f3 f4 = Nms.flags X 3 := by
      change _ = Nms.middle X 2 256 1664 384#32 (by decide) (by decide) (by decide) (Nms.flags X 2)
      delta sound_kernel.sl.r_49 sound_kernel.sl.r_48 sound_kernel.sl.r_47 sound_kernel.sl.r_46 sound_kernel.sl.r_45 sound_kernel.sl.r_44
      simp only [k0_pay186, p2, e2]
      simp only [b6, b7, b8, b9, b19, b20, b21, b22, b23, b24, b25, v165, v166, v169]
      rfl
    have p3 := e3
    unfold sound_kernel.sl.r_49 at p3
    have e4 : sound_kernel.sl.r_53 c arg2 arg3 arg4 arg5 f1 f2 f3 f4 = Nms.flags X 4 := by
      change _ = Nms.middle X 3 384 1536 512#32 (by decide) (by decide) (by decide) (Nms.flags X 3)
      delta sound_kernel.sl.r_53 sound_kernel.sl.r_52 sound_kernel.sl.r_51 sound_kernel.sl.r_50
      simp only [k0_pay199, p3, e3]
      simp only [b6, b7, b8, b9, b19, b20, b21, b22, b23, b24, b25, v165, v166, v169]
      rfl
    have p4 := e4
    unfold sound_kernel.sl.r_53 at p4
    have e5 : sound_kernel.sl.r_61 c arg2 arg3 arg4 arg5 f1 f2 f3 f4 = Nms.flags X 5 := by
      change _ = Nms.middle X 4 512 1408 640#32 (by decide) (by decide) (by decide) (Nms.flags X 4)
      delta sound_kernel.sl.r_61 sound_kernel.sl.r_60 sound_kernel.sl.r_59 sound_kernel.sl.r_58 sound_kernel.sl.r_57 sound_kernel.sl.r_56 sound_kernel.sl.r_55 sound_kernel.sl.r_54
      simp only [k0_pay210, p4, e4]
      simp only [b6, b7, b8, b9, b19, b20, b21, b22, b23, b24, b25, v165, v166, v169]
      rfl
    have p5 := e5
    unfold sound_kernel.sl.r_61 at p5
    have e6 : sound_kernel.sl.r_71 c arg2 arg3 arg4 arg5 f1 f2 f3 f4 = Nms.flags X 6 := by
      change _ = Nms.middle X 5 640 1280 768#32 (by decide) (by decide) (by decide) (Nms.flags X 5)
      delta sound_kernel.sl.r_71 sound_kernel.sl.r_70 sound_kernel.sl.r_69 sound_kernel.sl.r_68 sound_kernel.sl.r_67 sound_kernel.sl.r_66 sound_kernel.sl.r_65 sound_kernel.sl.r_64 sound_kernel.sl.r_63 sound_kernel.sl.r_62
      simp only [k0_pay224, p5, e5]
      simp only [b6, b7, b8, b9, b19, b20, b21, b22, b23, b24, b25, v165, v166, v169]
      rfl
    have p6 := e6
    unfold sound_kernel.sl.r_71 at p6
    have e7 : sound_kernel.sl.r_80 c arg2 arg3 arg4 arg5 f1 f2 f3 f4 = Nms.flags X 7 := by
      change _ = Nms.middle X 6 768 1152 896#32 (by decide) (by decide) (by decide) (Nms.flags X 6)
      delta sound_kernel.sl.r_80 sound_kernel.sl.r_79 sound_kernel.sl.r_78 sound_kernel.sl.r_77 sound_kernel.sl.r_76 sound_kernel.sl.r_75 sound_kernel.sl.r_74 sound_kernel.sl.r_73 sound_kernel.sl.r_72
      simp only [k0_pay234, p6, e6]
      simp only [b6, b7, b8, b9, b19, b20, b21, b22, b23, b24, b25, v165, v166, v169]
      rfl
    have e8 : sound_kernel.sl.r_85 c arg2 arg3 arg4 arg5 f1 f2 f3 f4 = Nms.flags X 8 := by
      change _ = Nms.middle X 7 896 1024 1024#32 (by decide) (by decide) (by decide) (Nms.flags X 7)
      delta sound_kernel.sl.r_85 sound_kernel.sl.r_84 sound_kernel.sl.r_83 sound_kernel.sl.r_82 sound_kernel.sl.r_81
      simp only [e7]
      simp only [b6, b7, b8, b9, b19, b20, b21, b22, b23, b24, b25, v165, v166, v169]
      rfl
    have p8 := e8
    unfold sound_kernel.sl.r_85 at p8
    have e9 : sound_kernel.sl.r_91 c arg2 arg3 arg4 arg5 f1 f2 f3 f4 = Nms.flags X 9 := by
      change _ = Nms.middle X 8 1024 896 1152#32 (by decide) (by decide) (by decide) (Nms.flags X 8)
      delta sound_kernel.sl.r_91 sound_kernel.sl.r_90 sound_kernel.sl.r_89 sound_kernel.sl.r_88 sound_kernel.sl.r_87 sound_kernel.sl.r_86
      simp only [k0_pay260, p8, e8]
      simp only [b6, b7, b8, b9, b19, b20, b21, b22, b23, b24, b25, v165, v166, v169]
      rfl
    have p9 := e9
    unfold sound_kernel.sl.r_91 at p9
    have e10 : sound_kernel.sl.r_97 c arg2 arg3 arg4 arg5 f1 f2 f3 f4 = Nms.flags X 10 := by
      change _ = Nms.middle X 9 1152 768 1280#32 (by decide) (by decide) (by decide) (Nms.flags X 9)
      delta sound_kernel.sl.r_97 sound_kernel.sl.r_96 sound_kernel.sl.r_95 sound_kernel.sl.r_94 sound_kernel.sl.r_93 sound_kernel.sl.r_92
      simp only [k0_pay272, p9, e9]
      simp only [b6, b7, b8, b9, b19, b20, b21, b22, b23, b24, b25, v165, v166, v169]
      rfl
    have p10 := e10
    unfold sound_kernel.sl.r_97 at p10
    have e11 : sound_kernel.sl.r_101 c arg2 arg3 arg4 arg5 f1 f2 f3 f4 = Nms.flags X 11 := by
      change _ = Nms.middle X 10 1280 640 1408#32 (by decide) (by decide) (by decide) (Nms.flags X 10)
      delta sound_kernel.sl.r_101 sound_kernel.sl.r_100 sound_kernel.sl.r_99 sound_kernel.sl.r_98
      simp only [k0_pay284, p10, e10]
      simp only [b6, b7, b8, b9, b19, b20, b21, b22, b23, b24, b25, v165, v166, v169]
      rfl
    have p11 := e11
    unfold sound_kernel.sl.r_101 at p11
    have e12 : sound_kernel.sl.r_108 c arg2 arg3 arg4 arg5 f1 f2 f3 f4 = Nms.flags X 12 := by
      change _ = Nms.middle X 11 1408 512 1536#32 (by decide) (by decide) (by decide) (Nms.flags X 11)
      delta sound_kernel.sl.r_108 sound_kernel.sl.r_107 sound_kernel.sl.r_106 sound_kernel.sl.r_105 sound_kernel.sl.r_104 sound_kernel.sl.r_103 sound_kernel.sl.r_102
      simp only [k0_pay294, p11, e11]
      simp only [b6, b7, b8, b9, b19, b20, b21, b22, b23, b24, b25, v165, v166, v169]
      rfl
    have e13 : sound_kernel.sl.r_117 c arg2 arg3 arg4 arg5 f1 f2 f3 f4 = Nms.flags X 13 := by
      change _ = Nms.middle X 12 1536 384 1664#32 (by decide) (by decide) (by decide) (Nms.flags X 12)
      delta sound_kernel.sl.r_117 sound_kernel.sl.r_116 sound_kernel.sl.r_115 sound_kernel.sl.r_114 sound_kernel.sl.r_113 sound_kernel.sl.r_112 sound_kernel.sl.r_111 sound_kernel.sl.r_110 sound_kernel.sl.r_109
      simp only [e12]
      simp only [b6, b7, b8, b9, b19, b20, b21, b22, b23, b24, b25, v165, v166, v169]
      rfl
    have p13 := e13
    unfold sound_kernel.sl.r_117 at p13
    have e14 : sound_kernel.sl.r_127 c arg2 arg3 arg4 arg5 f1 f2 f3 f4 = Nms.flags X 14 := by
      change _ = Nms.middle X 13 1664 256 1792#32 (by decide) (by decide) (by decide) (Nms.flags X 13)
      delta sound_kernel.sl.r_127 sound_kernel.sl.r_126 sound_kernel.sl.r_125 sound_kernel.sl.r_124 sound_kernel.sl.r_123 sound_kernel.sl.r_122 sound_kernel.sl.r_121 sound_kernel.sl.r_120 sound_kernel.sl.r_119 sound_kernel.sl.r_118
      simp only [k0_pay317, p13, e13]
      simp only [b6, b7, b8, b9, b19, b20, b21, b22, b23, b24, b25, v165, v166, v169]
      rfl
    have p14 := e14
    unfold sound_kernel.sl.r_127 at p14
    have e15 : sound_kernel.sl.r_133 c arg2 arg3 arg4 arg5 f1 f2 f3 f4 = Nms.flags X 15 := by
      change _ = Nms.middle X 14 1792 128 1920#32 (by decide) (by decide) (by decide) (Nms.flags X 14)
      delta sound_kernel.sl.r_133 sound_kernel.sl.r_132 sound_kernel.sl.r_131 sound_kernel.sl.r_130 sound_kernel.sl.r_129 sound_kernel.sl.r_128
      simp only [k0_pay333, p14, e14]
      simp only [b6, b7, b8, b9, b19, b20, b21, b22, b23, b24, b25, v165, v166, v169]
      rfl
    have p15 := e15
    unfold sound_kernel.sl.r_133 at p15
    delta sound_kernel.sl.r_136 sound_kernel.sl.r_135 sound_kernel.sl.r_134
    simp only [k0_pay346, p15, e15]
    simp only [b6, b7, b8, b9, b19, b20, b21, b22, b23, b24, b25, v165, v166, v169]
    unfold out0_5; rw [← hX]; unfold Nms.scores; change _ = View.canon [⟨r0_0, shapeCast _ (select (andi (cmpf .ogt (Nms.last X (Nms.flags X 15)) _) _) _ _) _⟩]
    rfl
  iexists _; isplitr
  swap; · iexact H6
  ipureintro
  refine (View.read_writes_eq_canon _ _ _ (cover0_6 _)).trans ?_
  rfl

end Cert.KernelIdeal.Body

end
-- ==== Proof.KI.Frame.lean ====
/-
  The run of the idealized program around its one region, from the body's triple: the proof data, the body obligation at
  every grid point, the launch, and the frame.
-/
module

public import proofs.«01_k».proof.Proof.KI.Body
public import Idealize.ShloMosaic.Lib.Pipeline.FrameBody
public import Idealize.ShloMosaic.Lib.Pipeline.FrameSuffix
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and each output's at `out0_W` of the input blocks; the invariant the
    class's (the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves, window by window: the scores that came in are left as they were. -/
theorem after0_0 (c : Dev nD) (t : Fin cfg0.N) : (dats m 0 c).after 0 t = iblk m c 0 t := by dsimp only [dats]
/-- The anchors by row are left as they were. -/
theorem after0_1 (c : Dev nD) (t : Fin cfg0.N) : (dats m 0 c).after 1 t = iblk m c 1 t := by dsimp only [dats]
/-- The regressions by row are left as they were. -/
theorem after0_2 (c : Dev nD) (t : Fin cfg0.N) : (dats m 0 c).after 2 t = iblk m c 2 t := by dsimp only [dats]
/-- The anchors by column are left as they were. -/
theorem after0_3 (c : Dev nD) (t : Fin cfg0.N) : (dats m 0 c).after 3 t = iblk m c 3 t := by dsimp only [dats]
/-- The regressions by column are left as they were. -/
theorem after0_4 (c : Dev nD) (t : Fin cfg0.N) : (dats m 0 c).after 4 t = iblk m c 4 t := by dsimp only [dats]
/-- The scores' buffer is left with what the body computes for it. -/
theorem after0_5 (c : Dev nD) (t : Fin cfg0.N) : (dats m 0 c).after 5 t = out0_5 (iblk m c 0 t) (iblk m c 1 t) (iblk m c 2 t) (iblk m c 3 t) (iblk m c 4 t) := by dsimp only [dats]
/-- The boxes' buffer is left with what the body computes for it. -/
theorem after0_6 (c : Dev nD) (t : Fin cfg0.N) : (dats m 0 c).after 6 t = out0_6 (iblk m c 0 t) (iblk m c 1 t) (iblk m c 2 t) (iblk m c 3 t) (iblk m c 4 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
/-- The anchors by row, likewise. -/
theorem before0_1 (c : Dev nD) (t : Fin cfg0.N) (d) : (dats m 0 c).before 1 t d = iblk m c 1 t :=
  before0_1_of m (dats m 0 c) (A_eq m c 1) (after0_1 m c) t d
/-- The regressions by row, likewise. -/
theorem before0_2 (c : Dev nD) (t : Fin cfg0.N) (d) : (dats m 0 c).before 2 t d = iblk m c 2 t :=
  before0_2_of m (dats m 0 c) (A_eq m c 2) (after0_2 m c) t d
/-- The anchors by column, likewise. -/
theorem before0_3 (c : Dev nD) (t : Fin cfg0.N) (d) : (dats m 0 c).before 3 t d = iblk m c 3 t :=
  before0_3_of m (dats m 0 c) (A_eq m c 3) (after0_3 m c) t d
/-- The regressions by column, likewise. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the library's `θ_run_frame_around` is applied to this statement as it stands
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1, hostOps1_1, hostOps1_2, hostOps1_3, hostOps1_4, hostOps1_5])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Body

end
-- ==== Proof.RI.Frame.lean ====
/-
  The reference's run as a frame: no stretch of host operations writes an argument, so each argument array ends as it
  began; and the program has no semaphores, so every counter reads zero.
-/
module

public import proofs.«01_k».proof.Proof.Gen.ReferenceIdeal.Run
public import Idealize.ShloMosaic.Lib.Claim

@[expose] public section

set_option maxRecDepth 8192

noncomputable section

namespace Cert.ReferenceIdeal.Body

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- The argument references. -/
abbrev args : List (Ref sig .tc) := [main_arg0, main_arg1, main_arg2]

/-- The stretches before the loop leave the arguments alone. -/
theorem pre_keeps (V : Valuation τ sig (Elt F)) {r : Ref sig .tc} (hr : r ∈ args) :
    afterL preI V (Proc.devRef .tc r) = V (Proc.devRef .tc r) := by
  simp only [afterL_cons, afterL_nil]
  fin_cases hr <;>
  rw [after_of_writes_sub _ _ hostOps0_14_writes (by decide), after_of_writes_sub _ _ hostOps0_13_writes (by decide),
    after_of_writes_sub _ _ hostOps0_12_writes (by decide), after_of_writes_sub _ _ hostOps0_11_writes (by decide),
    after_of_writes_sub _ _ hostOps0_10_writes (by decide), after_of_writes_sub _ _ hostOps0_9_writes (by decide),
    after_of_writes_sub _ _ hostOps0_8_writes (by decide), after_of_writes_sub _ _ hostOps0_7_writes (by decide),
    after_of_writes_sub _ _ hostOps0_6_writes (by decide), after_of_writes_sub _ _ hostOps0_5_writes (by decide),
    after_of_writes_sub _ _ hostOps0_4_writes (by decide), after_of_writes_sub _ _ hostOps0_3_writes (by decide),
    after_of_writes_sub _ _ hostOps0_2_writes (by decide), after_of_writes_sub _ _ hostOps0_1_writes (by decide),
    after_of_writes_sub _ _ hostOps0_writes (by decide)]

/-- One trip of the loop, its condition included, leaves the arguments alone. -/
theorem trip_keeps (V : Valuation τ sig (Elt F)) {r : Ref sig .tc} (hr : r ∈ args) :
    afterL bodyI (after condOps V) (Proc.devRef .tc r) = V (Proc.devRef .tc r) := by
  simp only [afterL_cons, afterL_nil]
  fin_cases hr <;>
  rw [after_of_writes_sub _ _ while0Ops0_3_writes (by decide), after_of_writes_sub _ _ while0Ops0_2_writes (by decide),
    after_of_writes_sub _ _ while0Ops0_1_writes (by decide), after_of_writes_sub _ _ while0Ops0_writes (by decide),
    after_of_writes_sub _ _ condOps_writes (by decide)]

/-- Before every condition the arguments are as at the entry. -/
theorem atK_keeps (c : Dev nD) {r : Ref sig .tc} (hr : r ∈ args) :
    ∀ k, atK m k c (Proc.devRef .tc r) = m ((c.tc : Thread nD τ).loc r)
  | 0 => (pre_keeps _ hr).trans rfl
  | k + 1 => (trip_keeps (atK m k c) hr).trans (atK_keeps c hr k)

/-- The condition's last run and the stretches after the loop leave the arguments alone. -/
theorem post_keeps (V : Valuation τ sig (Elt F)) {r : Ref sig .tc} (hr : r ∈ args) :
    afterL postI (after condOps V) (Proc.devRef .tc r) = V (Proc.devRef .tc r) := by
  simp only [afterL_cons, afterL_nil]
  fin_cases hr <;>
    after_reads_simp

/-- At the end of @main the arguments are as launched. -/
theorem final_keeps (c : Dev nD) {r : Ref sig .tc} (hr : r ∈ args) :
    finalContents condOps preI bodyI postI 2000 m c (Proc.devRef .tc r) = m ((c.tc : Thread nD τ).loc r) :=
  (post_keeps (atK m 2000 c) hr).trans (atK_keeps m c hr 2000)

/-- The frame: @main terminates, its arguments unchanged, every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h =>
    ⟨fun c => ⟨(h c main_arg0 rfl).trans (final_keeps m c (by simp)), (h c main_arg1 rfl).trans (final_keeps m c (by simp)),
      (h c main_arg2 rfl).trans (final_keeps m c (by simp))⟩, sem_eq_zero_of_no_sems (by decide) r.2⟩) (run_fold m ρ)

end Cert.ReferenceIdeal.Body

end
-- ==== Proof.Value.Select.lean ====
/-
  Selecting the 2000 best of 147456 scores: at once, or the 2000 best of each of three channels first and then the best of
  those 6000, with ties given to the smaller position in both.
-/
module

public import Idealize.ShloMosaic.Lib.SortPrefix
public import Idealize.ShloMosaic.Lib.SortFacts
public import Idealize.ShloMosaic.PureOps.Ideal.Laws

@[expose] public section

namespace Cert.Select

open Idealize.ShloMosaic

/-- A stable sort of an increasing list reads its order only from a later element to an earlier one. -/
theorem stableSort_tie {ι : Type} [LT ι] (R R' : ι → ι → Bool) (h : ∀ a b, a < b → R b a = R' b a) (l : List ι)
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- So the elements of a stable sort in order depend on no more than that. -/
theorem sortedFrom_tie {n : Nat} (R R' : Fin n → Fin n → Bool) (h : ∀ a b, a < b → R b a = R' b a) :
    sortedFrom R = sortedFrom R' := by
  have e : sortPositions n R = sortPositions n R' := stableSort_tie R R' h _ (List.pairwise_lt_finRange n)
  funext k
  unfold sortedFrom
  rw [List.get_of_eq e]
  rfl

open Classical

noncomputable section

/-- Greater score first, then smaller position. -/
def best {n : Nat} (s : Fin n → EReal) (f g : Fin n) : Bool := decide (s g < s f ∨ (s f = s g ∧ f < g))

/-- `best` is a strict total order. -/
theorem best_total {n : Nat} (s : Fin n → EReal) : StrictTotalBefore (best s) where
  irrefl f := by simp [best]
  trans f g h := by
    simp only [best, decide_eq_true_eq]
    rintro (h1 | ⟨h1, h1'⟩) (h2 | ⟨h2, h2'⟩)
    · exact .inl (h2.trans h1)
    · exact .inl (h2 ▸ h1)
    · exact .inl (h1 ▸ h2)
    · exact .inr ⟨h1.trans h2, h1'.trans h2'⟩
  total f g hne := by
    simp only [best, decide_eq_true_eq]
    rcases lt_trichotomy (s f) (s g) with h | h | h
    · exact .inr (.inl h)
    · rcases lt_or_gt_of_ne hne with h' | h'
      · exact .inl (.inr ⟨h, h'⟩)
      · exact .inr (.inr ⟨h.symm, h'⟩)
    · exact .inl (.inl h)

/-- The stable sort by score is the sort by `best`. -/
theorem sortedFrom_best {n : Nat} (s : Fin n → EReal) : sortedFrom (fun f g => decide (s g < s f)) = sortedFrom (best s) :=
  sortedFrom_tie _ _ fun a b hab => by
    unfold best
    congr 1
    simp only [eq_iff_iff, iff_self_or, not_lt_of_gt hab, and_false, false_imp_iff]

/-- Position `h` of channel `a` in the flat order. -/
def flat (a : Fin 3) (h : Fin 49152) : Fin 147456 := ⟨h.val * 3 + a.val, by omega⟩

variable (s : Fin 147456 → EReal)

/-- The position, in channel `a`, of its `p`-th best score. -/
def chan (a : Fin 3) (p : Fin 2000) : Fin 49152 :=
  sortedFrom (fun k k' => decide (s (flat a k') < s (flat a k))) (p.castLE (by omega))

/-- The flat position of candidate `m` of the 6000: channel `m / 2000`, its best score number `m % 2000`. -/
def cand (m : Fin 6000) : Fin 147456 := flat ⟨m.val / 2000, by omega⟩ (chan s ⟨m.val / 2000, by omega⟩ ⟨m.val % 2000, by omega⟩)

/-- Channel and position can be read back from the flat position. -/
theorem flat_inj {a a' : Fin 3} {h h' : Fin 49152} (e : flat a h = flat a' h') : a = a' ∧ h = h' := by
  simp only [flat, Fin.mk.injEq] at e
  constructor <;> ext <;> omega

/-- A channel's selections are distinct. -/
theorem chan_inj (a : Fin 3) : Function.Injective (chan s a) := fun p q e => by
  have := sortedFrom_injective _ e
  exact Fin.castLE_injective _ this

/-- The 6000 candidates are distinct positions. -/
theorem cand_inj : Function.Injective (cand s) := fun m m' e => by
  obtain ⟨h1, h2⟩ := flat_inj e
  have h3 := Fin.mk.inj h1
  have h4 : chan s ⟨m'.val / 2000, by omega⟩ ⟨m.val % 2000, by omega⟩ = chan s ⟨m'.val / 2000, by omega⟩ ⟨m'.val % 2000, by omega⟩ := by
    simpa only [h3] using h2
  have h5 := Fin.mk.inj (chan_inj s _ h4)
  ext
  omega

/-- Candidate `2000 a + p` is the `p`-th best of channel `a`. -/
theorem cand_at (a : Fin 3) (p : Fin 2000) : cand s ⟨a.val * 2000 + p.val, by omega⟩ = flat a (chan s a p) := by
  unfold cand
  have e1 : (a.val * 2000 + p.val) / 2000 = a.val := by omega
  have e2 : (a.val * 2000 + p.val) % 2000 = p.val := by omega
  simp only [e1, e2]

/-- In a channel, a position that is none of its 2000 best comes after all of them. -/
theorem chan_before (a : Fin 3) (h : Fin 49152) (hh : ∀ p, chan s a p ≠ h) (p : Fin 2000) :
    best s (flat a (chan s a p)) (flat a h) = true := by
  have e : ∀ k k', best (fun k => s (flat a k)) k k' = best s (flat a k) (flat a k') := fun k k' => by
    simp only [best]
    congr 3
    simp only [eq_iff_iff, flat, Fin.lt_def]
    omega
  obtain ⟨j, hj⟩ := sortedFrom_surjective (best fun k => s (flat a k)) h
  have hc : ∀ p, chan s a p = sortedFrom (best fun k => s (flat a k)) (p.castLE (by omega)) := fun p => by
    unfold chan
    rw [sortedFrom_best (fun k => s (flat a k))]
  have hlt : p.castLE (by omega) < j := by
    rw [Fin.lt_def]
    by_contra hn
    refine hh ⟨j.val, ?_⟩ ((hc _).trans hj)
    have := p.isLt
    simp only [Fin.val_castLE] at hn
    omega
  have hB := best_total fun k => s (flat a k)
  have h1 := sortedFrom_noInversion (best fun k => s (flat a k)) (best fun k => s (flat a k)) hB.asymm (fun _ _ h => h)
    hB.negTrans _ _ hlt
  rw [hj, ← hc, e] at h1
  rcases (best_total s).total (flat a (chan s a p)) (flat a h) (fun e' => hh p (flat_inj e').2) with h2 | h2
  · exact h2
  · rw [h1] at h2; exact absurd h2 (by decide)

/-- Sorting the 6000 candidates by score and flat position, the first 2000 are the 2000 best of all. -/
theorem merge (C : Fin 6000 → Fin 6000 → Bool) (hC : ∀ m m', C m m' = best s (cand s m) (cand s m')) (i : Fin 2000) :
    sortedFrom (fun f g => decide (s g < s f)) (i.castLE (by omega)) = cand s (sortedFrom C (i.castLE (by omega))) := by
  have hB := best_total s
  have hCB : StrictTotalBefore C := ⟨fun a => by rw [hC]; exact hB.irrefl _,
    fun a b c => by rw [hC, hC, hC]; exact hB.trans _ _ _,
    fun a b hne => by rw [hC, hC]; exact hB.total _ _ fun e => hne (cand_inj s e)⟩
  rw [sortedFrom_best]
  refine hB.sortedFrom_eq_of_prefix (by omega) (fun i : Fin 2000 => cand s (sortedFrom C (i.castLE (by omega))))
    (fun i j e => ?_) (fun i j hij => ?_) (fun i q hq => ?_) i
  · exact Fin.castLE_injective _ (sortedFrom_injective C (cand_inj s e))
  · rw [← hC]
    exact sortedFrom_noInversion C C hCB.asymm (fun _ _ h => h) hCB.negTrans _ _ (by rw [Fin.lt_def] at hij ⊢; exact hij)
  · by_cases hm : ∃ m, cand s m = q
    · obtain ⟨m, rfl⟩ := hm
      obtain ⟨j, rfl⟩ := sortedFrom_surjective C m
      rw [← hC]
      refine sortedFrom_noInversion C C hCB.asymm (fun _ _ h => h) hCB.negTrans _ _ ?_
      rw [Fin.lt_def]
      by_contra hn
      simp only [Fin.val_castLE] at hn
      exact hq ⟨j.val, by omega⟩ rfl
    · cases hb : best s q (cand s (sortedFrom C (i.castLE (by omega))))
      · rfl
      · exfalso
        obtain ⟨a, h, rfl⟩ : ∃ a h, q = flat a h :=
          ⟨⟨q.val % 3, by omega⟩, ⟨q.val / 3, by omega⟩, by ext; simp only [flat]; omega⟩
        -- all 2000 candidates of the channel come before the `i`-th of the sort, so sit at places before `i`
        have hpos : ∀ p : Fin 2000, ∃ j : Fin 6000, j.val < i.val ∧
            sortedFrom C j = ⟨a.val * 2000 + p.val, by omega⟩ := fun p => by
          obtain ⟨j, hj⟩ := sortedFrom_surjective C ⟨a.val * 2000 + p.val, by omega⟩
          refine ⟨j, ?_, hj⟩
          by_contra hn
          have hbef : best s (cand s (sortedFrom C j)) (flat a h) = true := by
            rw [hj, cand_at]
            exact chan_before s a h (fun p' hp' => hm ⟨⟨a.val * 2000 + p'.val, by omega⟩, by rw [cand_at, hp']⟩) p
          have h1 := hB.trans _ _ _ hbef hb
          rcases Nat.lt_or_eq_of_le (not_lt.mp hn) with h2 | h2
          · have h3 := sortedFrom_noInversion C C hCB.asymm (fun _ _ h => h) hCB.negTrans (i.castLE (by omega)) j h2
            rw [hC, h1] at h3
            exact absurd h3 (by decide)
          · have h4 : i.castLE (by omega) = j := Fin.ext h2
            rw [h4, hB.irrefl] at h1
            exact absurd h1 (by decide)
        choose j hj1 hj2 using hpos
        have hinj : Function.Injective fun p : Fin 2000 => (⟨(j p).val, hj1 p⟩ : Fin i.val) := fun p p' e => by
          have e1 : j p = j p' := Fin.ext (Fin.mk.inj e)
          have e2 := hj2 p
          rw [e1, hj2 p'] at e2
          have := Fin.mk.inj e2
          ext
          omega
        have := Fintype.card_le_of_injective _ hinj
        simp only [Fintype.card_fin] at this
        omega

end

end Cert.Select
-- ==== Proof.Value.Spec.lean ====
/-
  The values the two programs share, as functions of the arguments: the scores, the positions of the 2000 best, their
  regressions and anchors; and the lemmas by which a host operation that selects or gathers is read at one index.
-/
module

public import proofs.«01_k».proof.Proof.Value.Select
public import proofs.«01_k».proof.Proof.Gen.KernelIdeal
public import Idealize.ShloMosaic.Lib.Pointwise
public import Idealize.ShloMosaic.Lib.Affine

@[expose] public section

set_option maxRecDepth 16384

noncomputable section

namespace Cert.Spec

open Idealize.ShloMosaic

/-- The score of flat position `f` of image `n`, from the objectness: the logistic function at (channel, row, column). -/
def score (o : FVec Ideal ⟨4, ![4, 3, 192, 256]⟩ .f32) (n : Fin 4) (f : Fin 147456) : EReal :=
  Ideal.div 1 (1 + Ideal.exp (-o (ix4 n ⟨f.val % 3, by omega⟩ ⟨f.val / 768, by omega⟩ ⟨f.val / 3 % 256, by omega⟩)))

/-- The flat position of the `i`-th best score of image `n`, ties by position. -/
def pos (o : FVec Ideal ⟨4, ![4, 3, 192, 256]⟩ .f32) (n : Fin 4) (i : Fin 2000) : Fin 147456 :=
  sortedFrom (fun f g => decide (score o n g < score o n f)) (i.castLE (by omega))

/-- The regression of flat position `f`, component `k`. -/
def rel (r : FVec Ideal ⟨4, ![4, 12, 192, 256]⟩ .f32) (n : Fin 4) (f : Fin 147456) (k : Fin 4) : EReal :=
  r (ix4 n ⟨f.val % 3 * 4 + k.val, by omega⟩ ⟨f.val / 768, by omega⟩ ⟨f.val / 3 % 256, by omega⟩)

/-- Component `k` of the anchor of candidate `i`, zero past the 2000th. -/
def ancAt (a : FVec Ideal ⟨3, ![4, 147456, 4]⟩ .f32) (o : FVec Ideal ⟨4, ![4, 3, 192, 256]⟩ .f32) (n : Fin 4) (i : Nat) (k : Fin 4) : EReal :=
  if h : i < 2000 then a (ix3 n (pos o n ⟨i, h⟩) k) else 0

/-- Component `k` of the regression of candidate `i`, zero past the 2000th. -/
def relAt (r : FVec Ideal ⟨4, ![4, 12, 192, 256]⟩ .f32) (o : FVec Ideal ⟨4, ![4, 3, 192, 256]⟩ .f32) (n : Fin 4) (i : Nat) (k : Fin 4) : EReal :=
  if h : i < 2000 then rel r n (pos o n ⟨i, h⟩) k else 0

/-- The score of candidate `i`, the word of −10⁹ past the 2000th. -/
def topAt (o : FVec Ideal ⟨4, ![4, 3, 192, 256]⟩ .f32) (n : Fin 4) (i : Nat) : EReal :=
  if h : i < 2000 then score o n (pos o n ⟨i, h⟩) else Ideal.ofBits .f32 0xCE6E6B28#32

/-- A comparison of scores by the total order, as a decision. -/
theorem gt_iff (a b : Ideal .f32) : (FloatOps.cmpfTotal .gt a b == 1#1) = decide (b < a) := by
  show (BitVec.ofBool (decide _) == 1#1) = _
  by_cases h : b < a <;> simp [h]

/-- The order of the selections. -/
abbrev gt : Ideal .f32 → Ideal .f32 → BitVec 1 := FloatOps.cmpfTotal .gt

/-- Replacing the second coordinate of a pair. -/
theorem along2 {a b : Nat} (n : Fin a) (i k : Fin b) : (ix2 n i : (⟨2, ![a, b]⟩ : Shape).Idx).along 1 k = ix2 n k := by
  funext c
  fin_cases c <;> rfl

/-- Replacing the third coordinate of a triple. -/
theorem along3 {a b d : Nat} (n : Fin a) (m : Fin b) (i k : Fin d) :
    (ix3 n m i : (⟨3, ![a, b, d]⟩ : Shape).Idx).along 2 k = ix3 n m k := by
  funext c
  fin_cases c <;> rfl

/-- The indices of the 2000 best of a row of 147456 scores. -/
theorem topk_idx (x : FVec Ideal ⟨2, ![4, 147456]⟩ .f32) (h) (n : Fin 4) (i : Fin 2000) :
    (Host.topK ⟨2, ![4, 2000]⟩ 1 (FloatOps.cmpfTotal .gt) x h).2 (ix2 n i) = BitVec.ofNat 32
      (sortedFrom (fun f g : Fin 147456 => decide (x (ix2 n g) < x (ix2 n f))) (i.castLE (by omega))).val := by
  unfold Host.topK Host.sort2
  pointwise
  simp only [gt_iff]
  simp only [along2]
  rfl

/-- The 2000 best scores themselves. -/
theorem topk_val (x : FVec Ideal ⟨2, ![4, 147456]⟩ .f32) (h) (n : Fin 4) (i : Fin 2000) :
    (Host.topK ⟨2, ![4, 2000]⟩ 1 (FloatOps.cmpfTotal .gt) x h).1 (ix2 n i)
      = x (ix2 n (sortedFrom (fun f g : Fin 147456 => decide (x (ix2 n g) < x (ix2 n f))) (i.castLE (by omega)))) := by
  unfold Host.topK Host.sort2
  pointwise
  simp only [gt_iff]
  simp only [along2]
  rfl

/-- The same in each of three channels of 49152. -/
theorem topk3_idx (x : FVec Ideal ⟨3, ![4, 3, 49152]⟩ .f32) (h) (n : Fin 4) (a : Fin 3) (i : Fin 2000) :
    (Host.topK ⟨3, ![4, 3, 2000]⟩ 2 (FloatOps.cmpfTotal .gt) x h).2 (ix3 n a i) = BitVec.ofNat 32
      (sortedFrom (fun f g : Fin 49152 => decide (x (ix3 n a g) < x (ix3 n a f))) (i.castLE (by omega))).val := by
  unfold Host.topK Host.sort2
  pointwise
  simp only [gt_iff]
  simp only [along3]
  rfl

/-- The scores of each channel's selection. -/
theorem topk3_val (x : FVec Ideal ⟨3, ![4, 3, 49152]⟩ .f32) (h) (n : Fin 4) (a : Fin 3) (i : Fin 2000) :
    (Host.topK ⟨3, ![4, 3, 2000]⟩ 2 (FloatOps.cmpfTotal .gt) x h).1 (ix3 n a i)
      = x (ix3 n a (sortedFrom (fun f g : Fin 49152 => decide (x (ix3 n a g) < x (ix3 n a f))) (i.castLE (by omega)))) := by
  unfold Host.topK Host.sort2
  pointwise
  simp only [gt_iff]
  simp only [along3]
  rfl

/-- The same for the 1000 best of a row of 2000. -/
theorem topk1000_idx (x : FVec Ideal ⟨2, ![4, 2000]⟩ .f32) (h) (n : Fin 4) (i : Fin 1000) :
    (Host.topK ⟨2, ![4, 1000]⟩ 1 (FloatOps.cmpfTotal .gt) x h).2 (ix2 n i) = BitVec.ofNat 32
      (sortedFrom (fun f g : Fin 2000 => decide (x (ix2 n g) < x (ix2 n f))) (i.castLE (by omega))).val := by
  unfold Host.topK Host.sort2
  pointwise
  simp only [gt_iff]
  simp only [along2]
  rfl

/-- The 1000 best scores themselves. -/
theorem topk1000_val (x : FVec Ideal ⟨2, ![4, 2000]⟩ .f32) (h) (n : Fin 4) (i : Fin 1000) :
    (Host.topK ⟨2, ![4, 1000]⟩ 1 (FloatOps.cmpfTotal .gt) x h).1 (ix2 n i)
      = x (ix2 n (sortedFrom (fun f g : Fin 2000 => decide (x (ix2 n g) < x (ix2 n f))) (i.castLE (by omega)))) := by
  unfold Host.topK Host.sort2
  pointwise
  simp only [gt_iff]
  simp only [along2]
  rfl

/-- Both, from what the row holds. -/
theorem topk1000_idx_of (x : FVec Ideal ⟨2, ![4, 2000]⟩ .f32) (h) (n : Fin 4) (s : Fin 2000 → EReal) (hx : ∀ f, x (ix2 n f) = s f)
    (i : Fin 1000) : (Host.topK ⟨2, ![4, 1000]⟩ 1 (FloatOps.cmpfTotal .gt) x h).2 (ix2 n i)
      = BitVec.ofNat 32 (sortedFrom (fun f g : Fin 2000 => decide (s g < s f)) (i.castLE (by omega))).val := by
  rw [topk1000_idx]
  simp only [hx]

/-- The 1000 best scores, from what the row holds. -/
theorem topk1000_val_of (x : FVec Ideal ⟨2, ![4, 2000]⟩ .f32) (h) (n : Fin 4) (s : Fin 2000 → EReal) (hx : ∀ f, x (ix2 n f) = s f)
    (i : Fin 1000) : (Host.topK ⟨2, ![4, 1000]⟩ 1 (FloatOps.cmpfTotal .gt) x h).1 (ix2 n i)
      = s (sortedFrom (fun f g : Fin 2000 => decide (s g < s f)) (i.castLE (by omega))) := by
  rw [topk1000_val]
  simp only [hx]

/-- The indices of the 2000 best, from what the row holds. -/
theorem topk_idx_of (x : FVec Ideal ⟨2, ![4, 147456]⟩ .f32) (h) (n : Fin 4) (s : Fin 147456 → EReal) (hx : ∀ f, x (ix2 n f) = s f)
    (i : Fin 2000) : (Host.topK ⟨2, ![4, 2000]⟩ 1 (FloatOps.cmpfTotal .gt) x h).2 (ix2 n i)
      = BitVec.ofNat 32 (sortedFrom (fun f g : Fin 147456 => decide (s g < s f)) (i.castLE (by omega))).val := by
  rw [topk_idx]
  simp only [hx]

/-- The 2000 best scores, from what the row holds. -/
theorem topk_val_of (x : FVec Ideal ⟨2, ![4, 147456]⟩ .f32) (h) (n : Fin 4) (s : Fin 147456 → EReal) (hx : ∀ f, x (ix2 n f) = s f)
    (i : Fin 2000) : (Host.topK ⟨2, ![4, 2000]⟩ 1 (FloatOps.cmpfTotal .gt) x h).1 (ix2 n i)
      = s (sortedFrom (fun f g : Fin 147456 => decide (s g < s f)) (i.castLE (by omega))) := by
  rw [topk_val]
  simp only [hx]

/-- A number below 2³¹ as a word, read back. -/
theorem toInt_ofNat (p : Nat) (hp : p < 2 ^ 31) : (BitVec.ofNat 32 p).toInt = p := by
  rw [BitVec.toInt_ofNat', Int.bmod_eq_of_le] <;> omega

/-- A take along the rows of a [4 × 147456 × 4] array. -/
theorem gather_rows {α : Type} (x : (⟨3, ![4, 147456, 4]⟩ : Shape).Idx → α) (idx : IVec ⟨3, ![4, 2000, 1]⟩ 32) (n : Fin 4) (i : Fin 2000)
    (k : Fin 4) (p : Fin 147456) (h : idx (ix3 n i 0) = BitVec.ofNat 32 p.val) :
    Host.gather Cert.KernelIdeal.gather_S4x147456x4_S4x2000x1_S4x2000x4_2_1_0_0_1_2_114 x idx (ix3 n i k) = x (ix3 n p k) := by
  unfold Host.gather
  congr 1
  funext c
  apply Fin.ext
  fin_cases c
  · show 0 + n.val + 0 = n.val
    omega
  · have e : Cert.KernelIdeal.gather_S4x147456x4_S4x2000x1_S4x2000x4_2_1_0_0_1_2_114.siIdx (ix3 n i k) ⟨0, by decide⟩ = ix3 n i 0 := by
      funext c
      fin_cases c <;> rfl
    show min (idx (Cert.KernelIdeal.gather_S4x147456x4_S4x2000x1_S4x2000x4_2_1_0_0_1_2_114.siIdx (ix3 n i k) ⟨0, by decide⟩)).toInt.toNat 147455
      + 0 + 0 = p.val
    rw [e, h, toInt_ofNat _ (by omega)]
    omega
  · show 0 + 0 + k.val = k.val
    omega

/-- A take along the rows of a [4 × 589824] array. -/
theorem gather_flat {α : Type} (x : (⟨2, ![4, 589824]⟩ : Shape).Idx → α) (idx : IVec ⟨3, ![4, 8000, 1]⟩ 32) (n : Fin 4) (i : Fin 8000)
    (p : Fin 589824) (h : idx (ix3 n i 0) = BitVec.ofNat 32 p.val) :
    Host.gather Cert.KernelIdeal.gather_S4x589824_S4x8000x1_S4x8000_n_1_0_0_1_2_11 x idx (ix2 n i) = x (ix2 n p) := by
  unfold Host.gather
  congr 1
  funext c
  apply Fin.ext
  fin_cases c
  · show 0 + n.val + 0 = n.val
    omega
  · have e : Cert.KernelIdeal.gather_S4x589824_S4x8000x1_S4x8000_n_1_0_0_1_2_11.siIdx (ix2 n i) ⟨0, by decide⟩ = ix3 n i 0 := by
      funext c
      fin_cases c <;> rfl
    show min (idx (Cert.KernelIdeal.gather_S4x589824_S4x8000x1_S4x8000_n_1_0_0_1_2_11.siIdx (ix2 n i) ⟨0, by decide⟩)).toInt.toNat 589823
      + 0 + 0 = p.val
    rw [e, h, toInt_ofNat _ (by omega)]
    omega

/-- A take along the rows of a [4 × 2000 × 4] array. -/
theorem gather_kept {α : Type} (x : (⟨3, ![4, 2000, 4]⟩ : Shape).Idx → α) (idx : IVec ⟨3, ![4, 1000, 1]⟩ 32) (n : Fin 4) (i : Fin 1000)
    (k : Fin 4) (p : Fin 2000) (h : idx (ix3 n i 0) = BitVec.ofNat 32 p.val) :
    Host.gather Cert.KernelIdeal.gather_S4x2000x4_S4x1000x1_S4x1000x4_2_1_0_0_1_2_114 x idx (ix3 n i k) = x (ix3 n p k) := by
  unfold Host.gather
  congr 1
  funext c
  apply Fin.ext
  fin_cases c
  · show 0 + n.val + 0 = n.val
    omega
  · have e : Cert.KernelIdeal.gather_S4x2000x4_S4x1000x1_S4x1000x4_2_1_0_0_1_2_114.siIdx (ix3 n i k) ⟨0, by decide⟩ = ix3 n i 0 := by
      funext c
      fin_cases c <;> rfl
    show min (idx (Cert.KernelIdeal.gather_S4x2000x4_S4x1000x1_S4x1000x4_2_1_0_0_1_2_114.siIdx (ix3 n i k) ⟨0, by decide⟩)).toInt.toNat 1999
      + 0 + 0 = p.val
    rw [e, h, toInt_ofNat _ (by omega)]
    omega
  · show 0 + 0 + k.val = k.val
    omega

/-- A take's index that is in range is used as it is. -/
theorem wrap_eq (p N : Nat) (hp : p < N) (hN : N < 2 ^ 31) :
    Scalar.select (IntOp.cmpi .slt (BitVec.ofNat 32 p) 0#32) (IntOp.addi (BitVec.ofNat 32 p) (BitVec.ofNat 32 N)) (BitVec.ofNat 32 p)
      = BitVec.ofNat 32 p := by
  unfold Scalar.select
  refine if_neg fun h => ?_
  have := IntOp.cmpi_slt.mp h
  rw [toInt_ofNat _ (by omega)] at this
  simp at this
  omega

/-- … and its element is not replaced by the filling word. -/
theorem fill_eq {α : Type} (v : Fin 1 → BitVec 32) (p N : Nat) (hp : p < N) (hN : N < 2 ^ 31) (hv : v 0 = BitVec.ofNat 32 p) (a b : α) :
    Scalar.select (Finset.fold IntOp.andi 1#1 (fun x : Fin 1 => IntOp.andi
      (IntOp.cmpi .sge (Scalar.select (IntOp.cmpi .slt (v x) 0#32) (IntOp.addi (v x) (BitVec.ofNat 32 N)) (v x)) 0#32)
      (IntOp.cmpi .sle (Scalar.select (IntOp.cmpi .slt (v x) 0#32) (IntOp.addi (v x) (BitVec.ofNat 32 N)) (v x)) (BitVec.ofNat 32 (N - 1))))
      Finset.univ) a b = a := by
  rw [Finset.univ_unique, Finset.fold_singleton]
  have hd : (default : Fin 1) = 0 := rfl
  rw [hd, hv, wrap_eq p N hp hN]
  unfold Scalar.select
  refine if_pos ?_
  rw [show (1 : BitVec 1) = 1#1 from rfl, IntOp.andi_eq_one, IntOp.andi_eq_one, IntOp.cmpi_sge, IntOp.cmpi_sle, toInt_ofNat p (by omega), toInt_ofNat (N - 1) (by omega)]
  refine ⟨⟨?_, ?_⟩, rfl⟩
  · simp
  · omega

/-! ### The last selection -/

section

variable (s : Fin 4 → Fin 2000 → EReal) (b : Fin 4 → Fin 2000 → Fin 4 → EReal)

/-- The candidate of the `i`-th best score of image `n`. -/
def sel (n : Fin 4) (i : Fin 1000) : Fin 2000 := sortedFrom (fun f g => decide (s n g < s n f)) (i.castLE (by omega))

/-- The results: the box and the score of that candidate, zero where the score does not pass the word of −10⁸. -/
def resBoxes (n : Fin 4) (i : Fin 1000) (k : Fin 4) : EReal :=
  if Ideal.ofBits .f32 0xCCBEBC20#32 < s n (sel s n i) then b n (sel s n i) k else 0
/-- The score of that candidate, zero where it does not pass. -/
def resScores (n : Fin 4) (i : Fin 1000) : EReal :=
  if Ideal.ofBits .f32 0xCCBEBC20#32 < s n (sel s n i) then s n (sel s n i) else 0

end

end Cert.Spec

end
-- ==== Proof.Value.Core.lean ====
/-
  Non-maximum suppression as a statement about numbers: which candidates are left when the first `n` have been looked at,
  and how one trip of the kernel's loop changes the flags of a chunk.
-/
module

public import proofs.«01_k».proof.Proof.Nms
public import Idealize.ShloMosaic.Lib.Pointwise
public import Idealize.ShloMosaic.Lib.IdealHost
public import Idealize.ShloMosaic.Lib.Affine
public import Idealize.ShloMosaic.PureOps.Ideal.Laws

@[expose] public section

noncomputable section

namespace Cert.Nms

open Idealize.ShloMosaic
open Classical

/-- A box with its area. -/
structure Box where
  x1 : EReal
  y1 : EReal
  x2 : EReal
  y2 : EReal
  ar : EReal

/-- The overlap of two intervals counted in whole steps. -/
def meet (lo hi lo' hi' : EReal) : EReal := max (min hi hi' - max lo lo' + 1) 0

/-- The area two boxes share. -/
def Box.shared (b b' : Box) : EReal := meet b.x1 b.x2 b'.x1 b'.x2 * meet b.y1 b.y2 b'.y1 b'.y2

/-- Two boxes overlap too much: their shared area over the area of their union passes the threshold. -/
def Box.Over (b b' : Box) : Prop :=
  Ideal.ofBits .f32 0x3F333333#32 < Ideal.div (b.shared b') (b.ar + b'.ar - b.shared b')

/-- The shared area does not depend on which box comes first. -/
theorem Box.shared_comm (b b' : Box) : b.shared b' = b'.shared b := by
  simp only [Box.shared, meet, max_comm b.x1, max_comm b.y1, min_comm b.x2, min_comm b.y2]

/-- Neither does overlapping too much. -/
theorem Box.over_comm (b b' : Box) : b.Over b' ↔ b'.Over b := by
  simp only [Box.Over, Box.shared_comm b b', add_comm b.ar]

/-- Candidate `i` is left when the first `n` candidates have been looked at in turn: each of them, if it is itself left by
    then, takes away the later candidates it overlaps too much. -/
def Left (b : Nat → Box) : Nat → Nat → Prop
  | 0, _ => True
  | n + 1, i => Left b n i ∧ ¬(((b i).Over (b n) ∧ n < i) ∧ Left b n n)

/-- Looking at a candidate does not change an earlier one, nor itself. -/
theorem left_of_le (b : Nat → Box) {i : Nat} (n : Nat) : Left b (i + n) i ↔ Left b i i := by
  induction n with
  | zero => rfl
  | succ n ih =>
    show Left b (i + n) i ∧ _ ↔ _
    rw [ih]
    constructor
    · exact fun h => h.1
    · exact fun h => ⟨h, fun h' => absurd h'.1.2 (by simp only [Nat.add_eq]; omega)⟩

/-- What is left after `n + m` candidates, from what is left after `n`. -/
theorem left_add (b : Nat → Box) (n m i : Nat) :
    Left b (n + m) i ↔ Left b n i ∧ ∀ l < m, ¬(((b i).Over (b (n + l)) ∧ n + l < i) ∧ Left b (n + l) (n + l)) := by
  induction m with
  | zero => simp
  | succ m ih =>
    show Left b (n + m) i ∧ _ ↔ _
    rw [ih]
    constructor
    · rintro ⟨⟨h, h'⟩, h''⟩
      refine ⟨h, fun l hl => ?_⟩
      rcases Nat.lt_succ_iff_lt_or_eq.mp hl with e | e
      · exact h' l e
      · exact e ▸ h''
    · exact fun h => ⟨⟨h.1, fun l hl => h.2 l (by omega)⟩, h.2 m (by omega)⟩

/-- The flag of a statement: one where it holds, zero where it does not. -/
def flag (p : Prop) : EReal := if p then 1 else 0

/-- The word of one half. -/
theorem ofBits_half : Ideal.ofBits .f32 0x3F000000#32 = ((1 / 2 : ℝ) : EReal) := by
  simp [Ideal.ofBits, Ideal.ieee, -EReal.coe_mul]; norm_num

/-- A flag passes one half where its statement holds. -/
theorem half_lt_flag (p : Prop) : Ideal.ofBits .f32 0x3F000000#32 < flag p ↔ p := by
  rw [ofBits_half]
  unfold flag
  split_ifs with h
  · simp only [h, iff_true]; exact_mod_cast (by norm_num : (1 / 2 : ℝ) < 1)
  · simp only [h, iff_false, not_lt]; exact_mod_cast (by norm_num : (0 : ℝ) ≤ 1 / 2)

/-- Statements that hold together have the same flag. -/
theorem flag_congr {p q : Prop} (h : p ↔ q) : flag p = flag q := by simp [flag, h]

/-- A flag is not negative. -/
theorem flag_nonneg (p : Prop) : 0 ≤ flag p := by unfold flag; split_ifs <;> simp

/-- The word of −∞. -/
theorem ofBits_bot : Ideal.ofBits .f32 0xFF800000#32 = ⊥ := by simp [Ideal.ofBits, Ideal.ieee]

/-- The numbers of a box are above the word that fills the other lanes of a masked maximum. -/
def Box.Above (b : Box) : Prop :=
  Ideal.ofBits .f32 0xF149F2CA#32 ≤ b.x1 ∧ Ideal.ofBits .f32 0xF149F2CA#32 ≤ b.y1 ∧ Ideal.ofBits .f32 0xF149F2CA#32 ≤ b.x2 ∧
    Ideal.ofBits .f32 0xF149F2CA#32 ≤ b.y2 ∧ Ideal.ofBits .f32 0xF149F2CA#32 ≤ b.ar

/-- The maximum of a value `a` at lane `k` and a bound `z` at the others, for `z ≤ a`, is `a`. -/
theorem pick_apply (z : BitVec 32) (hit : IVec Lane 1) (v : FVec Ideal Lane .f32) (k : Fin 128)
    (hhit : ∀ l : Fin 128, hit (ix2 0 l) = 1#1 ↔ l = k) (hz : Ideal.ofBits .f32 z ≤ v (ix2 0 k)) (j : One2.Idx) :
    pick z hit v j = v (ix2 0 k) := by
  unfold pick
  pointwise
  refine le_antisymm (Finset.fold_max_le _ |>.mpr ⟨by rw [ofBits_bot]; exact bot_le, fun x _ => ?_⟩)
    (Finset.le_fold_max _ |>.mpr (.inr ⟨(0, k), Finset.mem_univ _, ?_⟩))
  · unfold Scalar.select
    split_ifs with h
    · rw [(hhit x.2).mp h]
    · exact hz
  · simp [Scalar.select, (hhit k).mpr rfl]

/-- A small number as a word, read back. -/
theorem toInt_small (n : Nat) (h : n < 4096) : (BitVec.ofNat 32 n).toInt = n := by
  rw [BitVec.toInt_ofNat', Int.bmod_eq_of_le] <;> omega

/-- Small numbers are equal as words where they are equal. -/
theorem word_eq_iff (m n : Nat) (hm : m < 4096) (hn : n < 4096) : IntOp.cmpi .eq (BitVec.ofNat 32 m) (BitVec.ofNat 32 n) = 1#1 ↔ m = n := by
  rw [IntOp.cmpi_eq, ← BitVec.toInt_inj, toInt_small m hm, toInt_small n hn]
  omega

/-- The signed order of small numbers as words is their own, strictly … -/
theorem word_lt_iff (m n : Nat) (hm : m < 4096) (hn : n < 4096) : IntOp.cmpi .sgt (BitVec.ofNat 32 m) (BitVec.ofNat 32 n) = 1#1 ↔ n < m := by
  rw [IntOp.cmpi_sgt, toInt_small m hm, toInt_small n hn]
  omega

/-- … and not strictly. -/
theorem word_le_iff (m n : Nat) (hm : m < 4096) (hn : n < 4096) : IntOp.cmpi .sge (BitVec.ofNat 32 m) (BitVec.ofNat 32 n) = 1#1 ↔ n ≤ m := by
  rw [IntOp.cmpi_sge, toInt_small m hm, toInt_small n hn]
  omega

/-- The bit of a decision is one where the decision is true. -/
theorem ofBool_one_iff (c : Bool) : BitVec.ofBool c = 1#1 ↔ c = true := by cases c <;> decide

/-- A choice by a bit, as a choice by what the bit states. -/
theorem select_iff {α : Type} {c : BitVec 1} {p : Prop} (h : c = 1#1 ↔ p) (a b : α) :
    Scalar.select c a b = if p then a else b := by
  unfold Scalar.select
  by_cases hp : p
  · rw [if_pos hp]; exact if_pos (h.mpr hp)
  · rw [if_neg hp]; exact if_neg (fun e => hp (h.mp e))

/-- One trip: a lane's flag stays where candidate `k` is not kept, does not come before, or overlaps little. -/
theorem trip_apply (lane : IVec Lane 32) (x1 y1 x2 y2 ar : FVec Ideal Lane .f32) (b : Fin 128 → Box) (k : Fin 128)
    (kc : FVec Ideal Lane .f32) (K : Fin 128 → Prop) (hlane : ∀ l : Fin 128, lane (ix2 0 l) = BitVec.ofNat 32 l.val)
    (h1 : ∀ l : Fin 128, x1 (ix2 0 l) = (b l).x1) (h2 : ∀ l : Fin 128, y1 (ix2 0 l) = (b l).y1)
    (h3 : ∀ l : Fin 128, x2 (ix2 0 l) = (b l).x2) (h4 : ∀ l : Fin 128, y2 (ix2 0 l) = (b l).y2)
    (h5 : ∀ l : Fin 128, ar (ix2 0 l) = (b l).ar) (hz : ∀ l, (b l).Above)
    (hkc : ∀ l : Fin 128, kc (ix2 0 l) = flag (K l)) (l : Fin 128) :
    trip lane x1 y1 x2 y2 ar (BitVec.ofNat 32 k.val) kc (ix2 0 l)
      = flag (K l ∧ ¬(((b l).Over (b k) ∧ k < l) ∧ K k)) := by
  have hhit : ∀ l : Fin 128, cmpi .eq lane (broadcast Lane (BitVec.ofNat 32 k.val)) (ix2 0 l) = 1#1 ↔ l = k := fun l => by
    refine (show _ ↔ IntOp.cmpi .eq (lane (ix2 0 l)) (BitVec.ofNat 32 k.val) = 1#1 from Iff.rfl).trans ?_
    rw [hlane, word_eq_iff _ _ (by omega) (by omega), Fin.ext_iff]
  unfold trip
  pointwise
  rw [pick_apply _ _ x1 k hhit (by rw [h1]; exact (hz k).1), pick_apply _ _ y1 k hhit (by rw [h2]; exact (hz k).2.1),
    pick_apply _ _ x2 k hhit (by rw [h3]; exact (hz k).2.2.1), pick_apply _ _ y2 k hhit (by rw [h4]; exact (hz k).2.2.2.1),
    pick_apply _ _ ar k hhit (by rw [h5]; exact (hz k).2.2.2.2),
    pick_apply _ _ kc k hhit (by rw [hkc, Ideal.ofBits_zero_f32]; exact flag_nonneg _)]
  rw [select_iff (p := ((b l).Over (b k) ∧ k < l) ∧ K k)]
  · rw [hkc]; unfold flag; split_ifs <;> simp_all
  · rw [IntOp.andi_eq_one, IntOp.andi_eq_one, hlane, word_lt_iff _ _ (by omega) (by omega), ofBool_one_iff,
      ofBool_one_iff, decide_eq_true_eq, decide_eq_true_eq, hkc, half_lt_flag, h1, h1, h2, h2, h3, h3, h4, h4, h5, h5]
    rfl

/-- The trips over a chunk that starts at candidate `p`: if its flags say which candidates the `p` earlier ones leave,
    the flags after the trips say which candidates the chunk itself leaves too. -/
theorem intra_apply (lane : IVec Lane 32) (x1 y1 x2 y2 ar : FVec Ideal Lane .f32) (b : Nat → Box) (p : Nat)
    (kc : FVec Ideal Lane .f32) (hlane : ∀ l : Fin 128, lane (ix2 0 l) = BitVec.ofNat 32 l.val)
    (h1 : ∀ l : Fin 128, x1 (ix2 0 l) = (b (p + l)).x1) (h2 : ∀ l : Fin 128, y1 (ix2 0 l) = (b (p + l)).y1)
    (h3 : ∀ l : Fin 128, x2 (ix2 0 l) = (b (p + l)).x2) (h4 : ∀ l : Fin 128, y2 (ix2 0 l) = (b (p + l)).y2)
    (h5 : ∀ l : Fin 128, ar (ix2 0 l) = (b (p + l)).ar) (hz : ∀ l, (b l).Above)
    (hkc : ∀ l : Fin 128, kc (ix2 0 l) = flag (Left b p (p + l))) (l : Fin 128) :
    intra lane x1 y1 x2 y2 ar kc (ix2 0 l) = flag (Left b (p + 128) (p + l)) := by
  have key : ∀ n ≤ 128, ∀ l : Fin 128, (((List.finRange loop.trips).take n).foldl
      (fun acc (k : Fin loop.trips) => trip lane x1 y1 x2 y2 ar (Scf.iv 0#32 1#32 k.val) acc) kc) (ix2 0 l) = flag (Left b (p + n) (p + l)) := by
    intro n
    induction n with
    | zero => intro _ l; simpa using hkc l
    | succ n ih =>
      intro hn l
      have ht : loop.trips = 128 := by decide
      have hlt : n < loop.trips := by omega
      rw [List.take_add_one, List.getElem?_eq_getElem (by simpa using hlt)]
      simp only [Option.toList_some, List.foldl_append, List.foldl_cons, List.foldl_nil, List.getElem_finRange]
      have hw : Scf.iv 0#32 1#32 n = BitVec.ofNat 32 (⟨n, by omega⟩ : Fin 128).val := by
        simp [Scf.iv]
      refine (congrArg (fun w => trip lane x1 y1 x2 y2 ar w _ (ix2 0 l)) hw).trans ?_
      rw [trip_apply lane x1 y1 x2 y2 ar (fun l => b (p + l)) ⟨n, by omega⟩ _ (fun l => Left b (p + n) (p + l)) hlane
        h1 h2 h3 h4 h5 (fun _ => hz _) (ih (by omega)) l]
      apply flag_congr
      show _ ↔ Left b (p + n) (p + l) ∧ _
      simp only [Fin.lt_def]
      have : n < l.val ↔ p + n < p + l.val := by omega
      rw [this]
      exact Iff.rfl
  have := key 128 le_rfl l
  rw [List.take_of_length_le (by simp; decide)] at this
  rw [intra, intraFrom, Scf.fold_eq]
  exact this

end Cert.Nms

end
-- ==== Proof.Value.Merge.lean ====
/-
  The kernel's selection of the 2000 best: the sort of the three channels' best by score and position, read at one index,
  is the selection of the reference.
-/
module

public import proofs.«01_k».proof.Proof.Value.Spec
public import proofs.«01_k».proof.Proof.Value.Core
public import proofs.«01_k».proof.Proof.Gen.KernelIdeal.Frame
public import Idealize.ShloMosaic.Lib.StableHlo.ReadAt

@[expose] public section

set_option maxRecDepth 16384

noncomputable section

namespace Cert.Spec

open Idealize.ShloMosaic Idealize.ShloMosaic.TcCoe Idealize.ShloMosaic.StableHlo
open Cert.KernelIdeal Cert.KernelIdeal.Gen Cert.Select Cert.Nms

/-- The order of the sort, on a score's negative and a position, is the order of scores, ties by position. -/
theorem comparator_best (s : Fin 147456 → EReal) (f g : Fin 147456) :
    (comparator_f32_i32_d1 (F := Ideal) ((-s f : EReal), BitVec.ofNat 32 f.val) ((-s g : EReal), BitVec.ofNat 32 g.val) == 1#1) = best s f g := by
  have canon : ∀ a : EReal, Scalar.select (FloatOps.cmpf (F := Ideal) (φ := .f32) .une a a) (FloatOps.ofBits (F := Ideal) .f32 0x7FC00000#32)
      (Scalar.select (FloatOps.cmpf (F := Ideal) (φ := .f32) .oeq a (FloatOps.ofBits (F := Ideal) .f32 0x00000000#32)) (FloatOps.ofBits (F := Ideal) .f32 0x00000000#32) a)
        = a := by
    intro a
    unfold Scalar.select
    pointwise
    simp only [ne_eq, not_true_eq_false, decide_false]
    by_cases h : a = 0 <;> simp [h]
  unfold comparator_f32_i32_d1
  dsimp only
  rw [canon, canon]
  unfold best
  have hneg : (-s f < -s g) ↔ s g < s f := EReal.neg_lt_neg_iff
  have hinj : (-s f = -s g) ↔ s f = s g := neg_inj
  have hlt : IntOp.cmpi .slt (BitVec.ofNat 32 f.val) (BitVec.ofNat 32 g.val) = 1#1 ↔ f < g := by
    rw [IntOp.cmpi_slt, toInt_ofNat _ (by omega), toInt_ofNat _ (by omega), Fin.lt_def]
    omega
  show (IntOp.ori (BitVec.ofBool (decide (-s f < -s g))) (IntOp.andi (BitVec.ofBool (decide (-s f = -s g))) _) == 1#1) = _
  rw [Bool.eq_iff_iff, beq_iff_eq, IntOp.ori_eq_one, IntOp.andi_eq_one, hlt, ofBool_one_iff, ofBool_one_iff, decide_eq_true_iff,
    decide_eq_true_iff, decide_eq_true_iff, hneg, hinj]

/-- The order of the kernel's sort. -/
abbrev order : Ideal .f32 × BitVec 32 → Ideal .f32 × BitVec 32 → BitVec 1 := comparator_f32_i32_d1

/-- The sort's first 2000, from candidates that are the channels' best: the scores … -/
theorem sorted_val (x : FVec Ideal ⟨2, ![4, 6000]⟩ .f32) (w : IVec ⟨2, ![4, 6000]⟩ 32) (n : Fin 4) (s : Fin 147456 → EReal)
    (hx : ∀ m, x (ix2 n m) = -s (cand s m)) (hw : ∀ m, w (ix2 n m) = BitVec.ofNat 32 (cand s m).val) (i : Fin 2000) :
    (Host.sort2 S4x6000 1 order x w).1 (ix2 n (i.castLE (by omega)))
      = -s (sortedFrom (fun f g => decide (s g < s f)) (i.castLE (by omega))) := by
  have e := merge s (fun m m' => comparator_f32_i32_d1 (x (ix2 n m), w (ix2 n m)) (x (ix2 n m'), w (ix2 n m')) == 1#1)
    (fun m m' => by rw [hx, hx, hw, hw]; exact comparator_best s _ _) i
  rw [e, ← hx]
  unfold Host.sort2
  pointwise
  simp only [along2]

/-- … and the positions. -/
theorem sorted_idx (x : FVec Ideal ⟨2, ![4, 6000]⟩ .f32) (w : IVec ⟨2, ![4, 6000]⟩ 32) (n : Fin 4) (s : Fin 147456 → EReal)
    (hx : ∀ m, x (ix2 n m) = -s (cand s m)) (hw : ∀ m, w (ix2 n m) = BitVec.ofNat 32 (cand s m).val) (i : Fin 2000) :
    (Host.sort2 S4x6000 1 order x w).2 (ix2 n (i.castLE (by omega)))
      = BitVec.ofNat 32 (sortedFrom (fun f g => decide (s g < s f)) (i.castLE (by omega))).val := by
  have e := merge s (fun m m' => comparator_f32_i32_d1 (x (ix2 n m), w (ix2 n m)) (x (ix2 n m'), w (ix2 n m')) == 1#1)
    (fun m m' => by rw [hx, hx, hw, hw]; exact comparator_best s _ _) i
  rw [e, ← hw]
  unfold Host.sort2
  pointwise
  simp only [along2]

local notation "F" => Ideal

variable (V : Valuation τ sig (Elt Ideal))

/-- The kernel's scores, by channel. -/
theorem score_at (o : FVec Ideal S4x3x192x256 .f32) (n : Fin 4) (a : Fin 3) (h : Fin 49152) :
    Ideal.div 1 (1 + Ideal.exp (-o (ix4 n a ⟨h.val / 256, by omega⟩ ⟨h.val % 256, by omega⟩))) = score o n (flat a h) := by
  unfold score flat
  have e1 : (h.val * 3 + a.val) % 3 = a.val := by omega
  have e2 : (h.val * 3 + a.val) / 768 = h.val / 256 := by omega
  have e3 : (h.val * 3 + a.val) / 3 % 256 = h.val % 256 := by omega
  simp only [e1, e2, e3]

/-- The channels' own selections laid end to end: the scores … -/
theorem cand_val (x : FVec Ideal ⟨3, ![4, 3, 49152]⟩ .f32) (h) (n : Fin 4) (s : Fin 147456 → EReal)
    (hx : ∀ a g, x (ix3 n a g) = s (flat a g)) (m : Fin 6000) :
    (Host.topK ⟨3, ![4, 3, 2000]⟩ 2 (FloatOps.cmpfTotal .gt) x h).1 (ix3 n ⟨m.val / 2000, by omega⟩ ⟨m.val % 2000, by omega⟩)
      = s (cand s m) := by
  rw [topk3_val]
  simp only [hx]
  rfl

/-- … and their positions in the flat order. -/
theorem cand_idx (x : FVec Ideal ⟨3, ![4, 3, 49152]⟩ .f32) (h) (n : Fin 4) (s : Fin 147456 → EReal)
    (hx : ∀ a g, x (ix3 n a g) = s (flat a g)) (m : Fin 6000) :
    IntOp.addi (IntOp.muli
      ((Host.topK ⟨3, ![4, 3, 2000]⟩ 2 (FloatOps.cmpfTotal .gt) x h).2 (ix3 n ⟨m.val / 2000, by omega⟩ ⟨m.val % 2000, by omega⟩)) 3#32)
      (BitVec.ofNat 32 (m.val / 2000)) = BitVec.ofNat 32 (cand s m).val := by
  rw [topk3_idx]
  simp only [hx]
  show BitVec.ofNat 32 _ * BitVec.ofNat 32 3 + BitVec.ofNat 32 _ = _
  rw [← BitVec.ofNat_mul, ← BitVec.ofNat_add]
  rfl

/-- What the kernel's sort reads first: the negatives of the 6000 candidates' scores. -/
theorem k_cand_val (n : Fin 4) (m : Fin 6000) :
    (after hostOps0 V (Proc.devRef .tc main_v15) : FVec Ideal S4x6000 .f32) (ix2 n m)
      = -score (V (Proc.tc.devRef main_arg1)) n (cand (score (V (Proc.tc.devRef main_arg1)) n) m) := by
  after_reads_at
  exact congrArg _ (cand_val _ _ n _ (fun a g => (by pointwise; exact score_at _ n a g)) m)

/-- What it reads second: their flat positions. -/
theorem k_cand_idx (n : Fin 4) (m : Fin 6000) :
    (after hostOps0 V (Proc.devRef .tc main_v14) : IVec S4x6000 32) (ix2 n m)
      = BitVec.ofNat 32 (cand (score (V (Proc.tc.devRef main_arg1)) n) m).val := by
  after_reads_at
  exact cand_idx _ _ n _ (fun a g => (by pointwise; exact score_at _ n a g)) m

/-- The kernel's 2000 best scores … -/
theorem k_scores (n : Fin 4) (i : Fin 2000) :
    (after hostOps0 V (Proc.devRef .tc main_v18) : FVec Ideal S4x2000 .f32) (ix2 n i)
      = score (V (Proc.tc.devRef main_arg1)) n (pos (V (Proc.tc.devRef main_arg1)) n i) := by
  have e : (after hostOps0 V (Proc.devRef .tc main_v18) : FVec Ideal S4x2000 .f32)
      = Host.negf (extractStridedSlice S4x2000 ![0, 0] ((Host.sort2 S4x6000 1 order
        (after hostOps0 V (Proc.devRef .tc main_v15) : FVec Ideal S4x6000 .f32) (after hostOps0 V (Proc.devRef .tc main_v14) : IVec S4x6000 32)).1)
        slices_S4x6000_S4x2000_0_0) := by
    after_reads_simp
  rw [e]
  pointwise
  have e2 : (ix2 n ⟨i.val, by omega⟩ : S4x6000.Idx) = ix2 n (i.castLE (by omega)) := rfl
  rw [e2, sorted_val _ _ n _ (k_cand_val V n) (k_cand_idx V n) i, neg_neg]
  rfl

/-- … and their positions. -/
theorem k_pos (n : Fin 4) (i : Fin 2000) :
    (after hostOps0 V (Proc.devRef .tc main_v19) : IVec S4x2000 32) (ix2 n i)
      = BitVec.ofNat 32 (pos (V (Proc.tc.devRef main_arg1)) n i).val := by
  have e : (after hostOps0 V (Proc.devRef .tc main_v19) : IVec S4x2000 32)
      = extractStridedSlice S4x2000 ![0, 0] ((Host.sort2 S4x6000 1 order
        (after hostOps0 V (Proc.devRef .tc main_v15) : FVec Ideal S4x6000 .f32) (after hostOps0 V (Proc.devRef .tc main_v14) : IVec S4x6000 32)).2)
        slices_S4x6000_S4x2000_0_0 := by
    after_reads_simp
  rw [e]
  pointwise
  exact sorted_idx _ _ n _ (k_cand_val V n) (k_cand_idx V n) i

end Cert.Spec

end
-- ==== Proof.Value.Take.lean ====
/-
  The kernel's regressions and anchors of the 2000 best, from their positions.
-/
module

public import proofs.«01_k».proof.Proof.Value.Merge

@[expose] public section

set_option maxRecDepth 16384

noncomputable section

namespace Cert.Spec

open Idealize.ShloMosaic Idealize.ShloMosaic.TcCoe Idealize.ShloMosaic.StableHlo
open Cert.KernelIdeal Cert.KernelIdeal.Gen Cert.Select

local notation "F" => Ideal

variable (V : Valuation τ sig (Elt Ideal))

/-- The remainder by three of a position, computed on words. -/
theorem rem_three (p : Nat) (hp : p < 147456) : IntOp.remsi .host (BitVec.ofNat 32 p) 3#32 = BitVec.ofNat 32 (p % 3) := by
  apply BitVec.eq_of_toNat_eq
  have e : (BitVec.ofNat 32 p).toNat = p := by rw [BitVec.toNat_ofNat]; omega
  have := IntOp.toNat_remsi .host (x := BitVec.ofNat 32 p) (by omega) 3 (by omega) (by omega)
  rw [this, e, BitVec.toNat_ofNat]
  omega

/-- The quotient by three of a position, computed on words. -/
theorem div_three (p : Nat) (hp : p < 147456) : IntOp.divsi .host (BitVec.ofNat 32 p) 3#32 = BitVec.ofNat 32 (p / 3) := by
  have e : (BitVec.ofNat 32 p).toNat = p := by rw [BitVec.toNat_ofNat]; omega
  have hm : (BitVec.ofNat 32 p).msb = false := by
    rw [BitVec.msb_eq_false_iff_two_mul_lt, e]
    omega
  unfold IntOp.divsi
  have h3 : (3#32 : BitVec 32).msb = false := by decide
  rw [if_neg (by unfold IntOp.SDivCorner; intro h; revert h; simp), BitVec.sdiv_eq, hm]
  simp only [h3]
  apply BitVec.eq_of_toNat_eq
  simp
  omega

/-- The channel of a position. -/
theorem k_chan (n : Fin 4) (i : Fin 2000) (p : Fin 147456) (hc : V (Proc.tc.devRef main_c_1) = constantI S_ 32 3#32)
    (h : (V (Proc.tc.devRef main_v19) : IVec S4x2000 32) (ix2 n i) = BitVec.ofNat 32 p.val) :
    (after hostOps0_1 V (Proc.devRef .tc main_v20) : IVec S4x2000 32) (ix2 n i) = BitVec.ofNat 32 (p.val % 3) := by
  after_reads_at
  have e : (id (V (Proc.tc.devRef main_c_1)) : IVec S_ 32) ix0 = 3#32 := by rw [hc]; rfl
  have e' : Scalar.select (IntOp.cmpi .eq 3#32 0#32) (1#32) 3#32 = 3#32 := rfl
  rw [h, e, e', rem_three _ p.isLt]
  obtain h | h | h : p.val % 3 = 0 ∨ p.val % 3 = 1 ∨ p.val % 3 = 2 := by omega
  all_goals rw [h]; rfl

/-- The cell of a position. -/
theorem k_cell (n : Fin 4) (i : Fin 2000) (p : Fin 147456) (hc : V (Proc.tc.devRef main_c_2) = constantI S_ 32 3#32)
    (h : (V (Proc.tc.devRef main_v19) : IVec S4x2000 32) (ix2 n i) = BitVec.ofNat 32 p.val) :
    (after hostOps0_3 V (Proc.devRef .tc main_v21) : IVec S4x2000 32) (ix2 n i) = BitVec.ofNat 32 (p.val / 3) := by
  after_reads_at
  have e : (id (V (Proc.tc.devRef main_c_2)) : IVec S_ 32) ix0 = 3#32 := by rw [hc]; rfl
  rw [h, e, rem_three _ p.isLt, div_three _ p.isLt]
  have ep : (BitVec.ofNat 32 p.val).toNat = p.val := by rw [BitVec.toNat_ofNat]; omega
  have hm : (BitVec.ofNat 32 p.val).msb = false := by
    rw [BitVec.msb_eq_false_iff_two_mul_lt, ep]
    omega
  rw [hm]
  by_cases h0 : p.val = 0
  · rw [h0]
    rfl
  · rw [if_neg (fun h => h0 (by rw [← ep, h]; rfl))]
    obtain h | h | h : p.val % 3 = 0 ∨ p.val % 3 = 1 ∨ p.val % 3 = 2 := by omega
    all_goals rw [h]; rfl

/-- The flat index of a candidate's regression component. -/
theorem k_flat4 (n : Fin 4) (i : Fin 2000) (k : Fin 4) (p : Fin 147456)
    (h0 : (V (Proc.tc.devRef main_v20) : IVec S4x2000 32) (ix2 n i) = BitVec.ofNat 32 (p.val % 3))
    (h1 : (V (Proc.tc.devRef main_v21) : IVec S4x2000 32) (ix2 n i) = BitVec.ofNat 32 (p.val / 3)) :
    (after hostOps0_4 V (Proc.devRef .tc main_v36) : IVec S4x8000 32) (ix2 n ⟨i.val * 4 + k.val, by omega⟩)
      = BitVec.ofNat 32 ((p.val % 3 * 4 + k.val) * 49152 + p.val / 3) := by
  have e : (ix2 n ⟨i.val * 4 + k.val, by omega⟩ : S4x8000.Idx) = ix2 n ⟨4 * i.val + k.val, by omega⟩ :=
    congrArg (ix2 n) (Fin.ext (by show i.val * 4 + k.val = 4 * i.val + k.val; omega))
  rw [e]
  after_reads_at
  rw [h0, h1]
  show (BitVec.ofNat 32 _ * BitVec.ofNat 32 4 + BitVec.ofNat 32 _) * BitVec.ofNat 32 49152 + BitVec.ofNat 32 _ = _
  rw [← BitVec.ofNat_mul, ← BitVec.ofNat_add, ← BitVec.ofNat_mul, ← BitVec.ofNat_add]

/-- The regressions, flat. -/
theorem k_flat (n : Fin 4) (p : Fin 147456) (k : Fin 4) :
    (after hostOps0_4 V (Proc.devRef .tc main_v35) : FVec Ideal S4x589824 .f32)
        (ix2 n ⟨(p.val % 3 * 4 + k.val) * 49152 + p.val / 3, by omega⟩)
      = rel (V (Proc.tc.devRef main_arg2)) n p k := by
  generalize hj : (⟨(p.val % 3 * 4 + k.val) * 49152 + p.val / 3, by omega⟩ : Fin 589824) = j
  have hj' := congrArg Fin.val hj
  dsimp only at hj'
  after_reads_at
  unfold rel
  congr 1
  have e0 : p.val / 768 = p.val / 3 / 256 := by omega
  have hq : p.val / 3 < 49152 := by omega
  have aux : ∀ a q x : Nat, q < 49152 → a * 49152 + q = x → x / 49152 = a ∧ x / 256 % 192 = q / 256 ∧ x % 256 = q % 256 := by
    intro a q x h1 h2
    omega
  obtain ⟨e1, e2, e3⟩ := aux _ _ _ hq hj'
  rw [← e0] at e2
  simp only [e1, e2, e3]

/-- The regressions taken. -/
theorem k_taken (n : Fin 4) (j : Fin 8000) (f : Fin 589824)
    (h : (V (Proc.tc.devRef main_v36) : IVec S4x8000 32) (ix2 n j) = BitVec.ofNat 32 f.val) :
    (after hostOps0_5 V (Proc.devRef .tc main_v37) : FVec Ideal S4x8000 .f32) (ix2 n j)
      = (V (Proc.tc.devRef main_v35) : FVec Ideal S4x589824 .f32) (ix2 n f) := by
  after_reads_at
  refine (fill_eq (fun _ => (V (Proc.tc.devRef main_v36) : IVec S4x8000 32) (ix2 n j)) f.val 589824 f.isLt (by decide) h _ _).trans ?_
  refine gather_flat _ _ n j f ?_
  show Scalar.select _ _ _ = _
  erw [h]
  exact wrap_eq f.val 589824 f.isLt (by decide)

/-- The regressions selected, as rows of four from the flat row of 8000. -/
theorem k_rows (n : Fin 4) (i : Fin 2000) (k : Fin 4) :
    (after hostOps0_6 V (Proc.devRef .tc main_v38) : FVec Ideal S4x2000x4 .f32) (ix3 n i k)
      = (V (Proc.tc.devRef main_v37) : FVec Ideal S4x8000 .f32) (ix2 n ⟨i.val * 4 + k.val, by omega⟩) := by
  after_reads_at

/-- The positions selected, as the column that the take of the anchors reads. -/
theorem k_column (n : Fin 4) (i : Fin 2000) :
    (after hostOps0_6 V (Proc.devRef .tc main_v39) : IVec S4x2000x1 32) (ix3 n i 0)
      = (V (Proc.tc.devRef main_v19) : IVec S4x2000 32) (ix2 n i) := by
  after_reads_at

/-- The anchors taken. -/
theorem k_anchors (n : Fin 4) (i : Fin 2000) (k : Fin 4) (p : Fin 147456)
    (h : (V (Proc.tc.devRef main_v39) : IVec S4x2000x1 32) (ix3 n i 0) = BitVec.ofNat 32 p.val) :
    (after hostOps0_7 V (Proc.devRef .tc main_v40) : FVec Ideal S4x2000x4 .f32) (ix3 n i k)
      = (V (Proc.tc.devRef main_arg0) : FVec Ideal S4x147456x4 .f32) (ix3 n p k) := by
  after_reads_at
  refine (fill_eq (fun x => (V (Proc.tc.devRef main_v39) : IVec S4x2000x1 32) (ix3 n i x)) p.val 147456 p.isLt (by decide) h _ _).trans ?_
  refine gather_rows _ _ n i k p ?_
  pointwise
  erw [h]
  exact wrap_eq p.val 147456 p.isLt (by decide)

end Cert.Spec

end
-- ==== Proof.Value.Host.lean ====
/-
  The arrays the kernel's call is launched on, read at one index: the scores, and the anchors and regressions of the 2000
  best, padded with zeros to 2048, by row and by column.
-/
module

public import proofs.«01_k».proof.Proof.Value.Take
public import proofs.«01_k».proof.Proof.KI.Frame

@[expose] public section

set_option maxRecDepth 16384

noncomputable section

namespace Cert.Spec

open Idealize.ShloMosaic Idealize.ShloMosaic.TcCoe Idealize.ShloMosaic.StableHlo
open Cert.KernelIdeal Cert.KernelIdeal.Gen Cert.Select

/-- The zero of the padding. -/
def nought : Ideal .f32 := FloatOps.sitofp (F := Ideal) .f32 (0#32 : BitVec 32)

/-- The padding's zero is zero. -/
theorem nought_eq : nought = (0 : EReal) := by
  show (((0#32 : BitVec 32).toInt : ℝ) : EReal) = 0
  simp

local notation "F" => Ideal

variable (V : Valuation τ sig (Elt Ideal))

/-- The host's lines before the call up to the selection of regressions and anchors, … -/
def early : Valuation τ sig (Elt Ideal) :=
  after hostOps0_7 (after hostOps0_6 (after hostOps0_5 (after hostOps0_4 (after hostOps0_3 (after hostOps0_2 (after hostOps0_1
    (after hostOps0 V)))))))

/-- … and the padding and transposing ones after it. -/
def late : Valuation τ sig (Elt Ideal) :=
  after hostOps0_14 (after hostOps0_13 (after hostOps0_12 (after hostOps0_11 (after hostOps0_10 (after hostOps0_9 (after hostOps0_8 V))))))

/-- The padded scores, from those selected. -/
theorem late_scores (n : Fin 4) (i : Fin 2048) : (late V (Proc.devRef .tc main_v42) : FVec Ideal S4x1x2048 .f32) (ix3 n 0 i)
    = if h : i.val < 2000 then (V (Proc.devRef .tc main_v18) : FVec Ideal S4x2000 .f32) (ix2 n ⟨i.val, h⟩) else Ideal.ofBits .f32 0xCE6E6B28#32 := by
  unfold late
  after_reads_at
  rfl

/-- The padded anchors by row, from those selected. -/
theorem late_anc (n : Fin 4) (i : Fin 2048) (k : Fin 4) : (late V (Proc.devRef .tc main_v45) : FVec Ideal S4x4x2048 .f32) (ix3 n k i)
    = if h : i.val < 2000 then (V (Proc.devRef .tc main_v40) : FVec Ideal S4x2000x4 .f32) (ix3 n ⟨i.val, h⟩ k)
      else nought := by
  unfold late nought
  after_reads_at

/-- The padded regressions by row, from those selected. -/
theorem late_rel (n : Fin 4) (i : Fin 2048) (k : Fin 4) : (late V (Proc.devRef .tc main_v46) : FVec Ideal S4x4x2048 .f32) (ix3 n k i)
    = if h : i.val < 2000 then (V (Proc.devRef .tc main_v38) : FVec Ideal S4x2000x4 .f32) (ix3 n ⟨i.val, h⟩ k)
      else nought := by
  unfold late nought
  after_reads_at

/-- The padded anchors by column: column `c` holds chunk `c`. -/
theorem late_anc_col (n : Fin 4) (l : Fin 128) (c : Fin 16) (k : Fin 4) :
    (late V (Proc.devRef .tc main_v48) : FVec Ideal S4x4x128x16 .f32) (ix4 n k l c)
    = if h : c.val * 128 + l.val < 2000 then (V (Proc.devRef .tc main_v40) : FVec Ideal S4x2000x4 .f32) (ix3 n ⟨c.val * 128 + l.val, h⟩ k)
      else nought := by
  unfold late nought
  after_reads_at

/-- The padded regressions by column. -/
theorem late_rel_col (n : Fin 4) (l : Fin 128) (c : Fin 16) (k : Fin 4) :
    (late V (Proc.devRef .tc main_v50) : FVec Ideal S4x4x128x16 .f32) (ix4 n k l c)
    = if h : c.val * 128 + l.val < 2000 then (V (Proc.devRef .tc main_v38) : FVec Ideal S4x2000x4 .f32) (ix3 n ⟨c.val * 128 + l.val, h⟩ k)
      else nought := by
  unfold late nought
  after_reads_at

/-- The scores selected are the best 2000 in order. -/
theorem early_scores (n : Fin 4) (i : Fin 2000) : (early V (Proc.devRef .tc main_v18) : FVec Ideal S4x2000 .f32) (ix2 n i)
    = score (V (Proc.tc.devRef main_arg1)) n (pos (V (Proc.tc.devRef main_arg1)) n i) := by
  rw [← k_scores]
  unfold early
  generalize after hostOps0 V = W
  after_reads_at

/-- The anchors selected are those at the positions of these scores. -/
theorem early_anc (n : Fin 4) (i : Fin 2000) (k : Fin 4) : (early V (Proc.devRef .tc main_v40) : FVec Ideal S4x2000x4 .f32) (ix3 n i k)
    = (V (Proc.devRef .tc main_arg0) : FVec Ideal S4x147456x4 .f32) (ix3 n (pos (V (Proc.tc.devRef main_arg1)) n i) k) := by
  have h := k_pos V n i
  have e0 : after hostOps0 V (Proc.devRef .tc main_arg0) = V (Proc.devRef .tc main_arg0) := by after_reads_simp
  rw [← e0]
  generalize pos (V (Proc.tc.devRef main_arg1)) n i = p at *
  unfold early
  generalize after hostOps0 V = W at *
  rw [k_anchors _ n i k p]
  · after_reads_at
  · rw [k_column]
    rw [← h]
    after_reads_at

/-- The regressions selected are those at the same positions. -/
theorem early_rel (n : Fin 4) (i : Fin 2000) (k : Fin 4) : (early V (Proc.devRef .tc main_v38) : FVec Ideal S4x2000x4 .f32) (ix3 n i k)
    = rel (V (Proc.devRef .tc main_arg2)) n (pos (V (Proc.tc.devRef main_arg1)) n i) k := by
  have h := k_pos V n i
  have e0 : after hostOps0 V (Proc.devRef .tc main_arg2) = V (Proc.devRef .tc main_arg2) := by after_reads_simp
  have e1 : after hostOps0 V (Proc.devRef .tc main_c_1) = constantI S_ 32 3#32 := by after_reads_simp
  rw [← e0]
  generalize pos (V (Proc.tc.devRef main_arg1)) n i = p at *
  unfold early
  generalize after hostOps0 V = W at *
  have a20 := k_chan W n i p e1 h
  have h' : (after hostOps0_2 (after hostOps0_1 W) (Proc.devRef .tc main_v19) : IVec S4x2000 32) (ix2 n i) = BitVec.ofNat 32 p.val := by
    rw [← h]
    after_reads_at
  have e2 : after hostOps0_2 (after hostOps0_1 W) (Proc.devRef .tc main_c_2) = constantI S_ 32 3#32 := by after_reads_simp
  have e3 : after hostOps0_2 (after hostOps0_1 W) (Proc.devRef .tc main_arg2) = W (Proc.devRef .tc main_arg2) := by after_reads_simp
  have a20' : (after hostOps0_2 (after hostOps0_1 W) (Proc.devRef .tc main_v20) : IVec S4x2000 32) (ix2 n i) = BitVec.ofNat 32 (p.val % 3) := by
    rw [← a20]
    generalize after hostOps0_1 W = W'
    after_reads_at
  rw [← e3]
  generalize after hostOps0_2 (after hostOps0_1 W) = X at *
  have a21 := k_cell X n i p e2 h'
  have a20'' : (after hostOps0_3 X (Proc.devRef .tc main_v20) : IVec S4x2000 32) (ix2 n i) = BitVec.ofNat 32 (p.val % 3) := by
    rw [← a20']
    after_reads_at
  have e4 : after hostOps0_3 X (Proc.devRef .tc main_arg2) = X (Proc.devRef .tc main_arg2) := by after_reads_simp
  rw [← e4]
  generalize after hostOps0_3 X = Y at *
  have a36 := k_flat4 Y n i k p a20'' a21
  rw [← k_flat Y n p k, ← k_taken _ _ _ ⟨_, by omega⟩ a36, ← k_rows (after hostOps0_5 (after hostOps0_4 Y)) n i k]
  generalize after hostOps0_6 (after hostOps0_5 (after hostOps0_4 Y)) = Z
  after_reads_at

section Launch

variable (m : (ℓ : Loc nD τ sig) → Buf (Elt Ideal) ℓ) (c : Dev nD)

/-- The three arguments, as launched. -/
abbrev arg0 : FVec Ideal S4x147456x4 .f32 := m (c, Proc.devRef .tc main_arg0)
abbrev arg1 : FVec Ideal S4x3x192x256 .f32 := m (c, Proc.devRef .tc main_arg1)
abbrev arg2 : FVec Ideal S4x12x192x256 .f32 := m (c, Proc.devRef .tc main_arg2)

/-- What memory holds at the call: the two groups of lines, one after the other. -/
theorem before_call : V0 m c = late (early (fun b => m (c, b))) := by
  unfold V0 late early
  simp only [List.flatten_cons, List.flatten_nil, List.append_nil, after_append]

/-- The call's first operand: the scores. -/
theorem in_scores (n : Fin 4) (i : Fin 2048) :
    (V0 m c (Proc.devRef .tc main_v42) : FVec Ideal S4x1x2048 .f32) (ix3 n 0 i) = topAt (arg1 m c) n i.val := by
  rw [before_call, late_scores]
  unfold topAt
  split
  · exact early_scores _ n _
  · rfl

/-- Its second and fourth: the anchors by row and by column. -/
theorem in_anc (n : Fin 4) (k : Fin 4) (i : Fin 2048) :
    (V0 m c (Proc.devRef .tc main_v45) : FVec Ideal S4x4x2048 .f32) (ix3 n k i) = ancAt (arg0 m c) (arg1 m c) n i.val k := by
  rw [before_call, late_anc]
  unfold ancAt
  split
  · exact early_anc _ n _ k
  · exact nought_eq

/-- The anchors by column. -/
theorem in_anc_col (n : Fin 4) (k : Fin 4) (l : Fin 128) (j : Fin 16) :
    (V0 m c (Proc.devRef .tc main_v48) : FVec Ideal S4x4x128x16 .f32) (ix4 n k l j) = ancAt (arg0 m c) (arg1 m c) n (j.val * 128 + l.val) k := by
  rw [before_call, late_anc_col]
  unfold ancAt
  split
  · exact early_anc _ n _ k
  · exact nought_eq

/-- Its third and fifth: the regressions by row and by column. -/
theorem in_rel (n : Fin 4) (k : Fin 4) (i : Fin 2048) :
    (V0 m c (Proc.devRef .tc main_v46) : FVec Ideal S4x4x2048 .f32) (ix3 n k i) = relAt (arg2 m c) (arg1 m c) n i.val k := by
  rw [before_call, late_rel]
  unfold relAt
  split
  · exact early_rel _ n _ k
  · exact nought_eq

/-- The regressions by column. -/
theorem in_rel_col (n : Fin 4) (k : Fin 4) (l : Fin 128) (j : Fin 16) :
    (V0 m c (Proc.devRef .tc main_v50) : FVec Ideal S4x4x128x16 .f32) (ix4 n k l j) = relAt (arg2 m c) (arg1 m c) n (j.val * 128 + l.val) k := by
  rw [before_call, late_rel_col]
  unfold relAt
  split
  · exact early_rel _ n _ k
  · exact nought_eq

end Launch

end Cert.Spec

end
-- ==== Proof.Value.Chunks.lean ====
/-
  The kernel's sixteen chunks: the flags after `n` chunks say which candidates the first `128 n` leave.
-/
module

public import proofs.«01_k».proof.Proof.Value.Core

@[expose] public section

noncomputable section

namespace Cert.Nms

open Idealize.ShloMosaic
open Classical

/-- The vectors of a context hold the boxes `b`, as a row and as the columns of the chunks, and the index vectors. -/
structure Reads (x : Ctx Ideal) (b : Nat → Box) : Prop where
  x1 : ∀ i : Fin 2048, x.row.x1 (ix2 0 i) = (b i).x1
  y1 : ∀ i : Fin 2048, x.row.y1 (ix2 0 i) = (b i).y1
  x2 : ∀ i : Fin 2048, x.row.x2 (ix2 0 i) = (b i).x2
  y2 : ∀ i : Fin 2048, x.row.y2 (ix2 0 i) = (b i).y2
  ar : ∀ i : Fin 2048, x.area (ix2 0 i) = (b i).ar
  x1T : ∀ (l : Fin 128) (c : Fin 16), x.cols.x1 (ix2 l c) = (b (128 * c + l)).x1
  y1T : ∀ (l : Fin 128) (c : Fin 16), x.cols.y1 (ix2 l c) = (b (128 * c + l)).y1
  x2T : ∀ (l : Fin 128) (c : Fin 16), x.cols.x2 (ix2 l c) = (b (128 * c + l)).x2
  y2T : ∀ (l : Fin 128) (c : Fin 16), x.cols.y2 (ix2 l c) = (b (128 * c + l)).y2
  arT : ∀ (l : Fin 128) (c : Fin 16), x.areaT (ix2 l c) = (b (128 * c + l)).ar
  lane : ∀ l : Fin 128, x.lane (ix2 0 l) = BitVec.ofNat 32 l.val
  glob : ∀ i : Fin 2048, x.glob (ix2 0 i) = BitVec.ofNat 32 i.val
  diag : ∀ k l : Fin 128, x.diag (ix2 k l) = 1#1 ↔ k = l
  above : ∀ n, (b n).Above

/-- Lane `l` of chunk `c` of a row is its candidate `128 c + l`. -/
theorem chunk_apply {α : Type} (c : Fin 16) (v : Row.Idx → α) (l : Fin 128) :
    chunk c v (ix2 0 l) = v (ix2 0 ⟨128 * c.val + l.val, by omega⟩) := by
  unfold chunk
  pointwise

/-- Column `c` of an array with one column per chunk. -/
theorem col_apply {α : Type} (c : Fin 16) (v : Cols.Idx → α) (l : Fin 128) :
    col c v (ix2 l 0) = v (ix2 l c) := by
  unfold col
  pointwise

/-- A maximum that starts from −∞ passes `z` where one of its terms does. -/
theorem bot_le_fold {ι : Type} (s : Finset ι) (f : ι → EReal) (z : EReal) :
    z < s.fold max (Ideal.ofBits .f32 0xFF800000#32) f ↔ ∃ x ∈ s, z < f x := by
  rw [Finset.lt_fold_max, ofBits_bot]
  simp

/-- A column entry of the turned flags passes one half where the chunk's flag holds. -/
theorem half_lt_turn (diag : IVec Sq 1) (hd : ∀ k l : Fin 128, diag (ix2 k l) = 1#1 ↔ k = l) (kc : FVec Ideal Lane .f32)
    (K : Fin 128 → Prop) (hkc : ∀ l : Fin 128, kc (ix2 0 l) = flag (K l)) (l : Fin 128) :
    Ideal.ofBits .f32 0x3F000000#32 < turn diag kc (ix2 l 0) ↔ K l := by
  unfold turn
  pointwise
  rw [bot_le_fold]
  have hb : ∀ k : Fin 128, IntOp.andi (diag (ix2 l k))
      (BitVec.ofBool (decide (Ideal.ofBits .f32 0x3F000000#32 < kc (ix2 0 k)))) = 1#1 ↔ l = k ∧ K k := fun k => by
    rw [IntOp.andi_eq_one, hd, ofBool_one_iff, decide_eq_true_eq, hkc, half_lt_flag]
  constructor
  · rintro ⟨k, _, hk⟩
    have := (half_lt_flag _).mp (lt_of_lt_of_eq hk (select_iff (hb k) (1 : EReal) 0))
    exact this.1 ▸ this.2
  · intro h
    exact ⟨l, Finset.mem_univ _, lt_of_lt_of_eq ((half_lt_flag _).mpr ⟨rfl, h⟩) (select_iff (hb l) (1 : EReal) 0).symm⟩

variable {x : Ctx Ideal} {b : Nat → Box} (r : Reads x b)
include r

/-- What chunk `c` suppresses: its lane `l` takes away candidate `i` if `l` is kept, the two overlap too much, and `i` lies past the chunk. -/
theorem drops_apply (c : Fin 16) (hi : BitVec 32) (hhi : hi = BitVec.ofNat 32 (128 * c.val + 128)) (kc : FVec Ideal Lane .f32)
    (K : Fin 128 → Prop) (hkc : ∀ l : Fin 128, kc (ix2 0 l) = flag (K l)) (l : Fin 128) (i : Fin 2048) :
    drops x.glob x.diag x.row x.area x.cols x.areaT c hi kc (ix2 l i)
      = flag (((b i).Over (b (128 * c + l)) ∧ 128 * c.val + 128 ≤ i) ∧ K l) := by
  unfold drops
  pointwise
  simp only [col_apply]
  apply select_iff
  rw [IntOp.andi_eq_one, IntOp.andi_eq_one, r.glob, hhi, word_le_iff _ _ (by omega) (by omega), ofBool_one_iff,
    ofBool_one_iff, decide_eq_true_eq, decide_eq_true_eq, half_lt_turn _ r.diag _ K hkc, r.x1, r.x2, r.y1, r.y2, r.ar,
    r.x1T, r.x2T, r.y1T, r.y2T, r.arT]
  rfl

omit r in
/-- A candidate survives a chunk if no lane of the chunk takes it away. -/
theorem survive_apply (d : FVec Ideal Grid .f32) (D : Fin 128 → Fin 2048 → Prop)
    (hd : ∀ l i, d (ix2 l i) = flag (D l i)) (i : Fin 2048) : survive d (ix2 0 i) = flag (¬ ∃ l, D l i) := by
  unfold survive
  pointwise
  simp only [bot_le_fold, hd, half_lt_flag, Finset.mem_univ, true_and]
  unfold flag
  split_ifs <;> simp_all

/-- The flags after chunk `c`, from those of the chunk after its own trips and those of the others before it. -/
theorem after_apply (c : Fin 16) (hi : BitVec 32) (hhi : hi = BitVec.ofNat 32 (128 * c.val + 128)) (placed : FVec Ideal Row .f32)
    (kc : FVec Ideal Lane .f32) (hkc : ∀ l : Fin 128, kc (ix2 0 l) = flag (Left b (128 * c + 128) (128 * c + l)))
    (hp : ∀ i : Fin 2048, placed (ix2 0 i) =
      flag (if 128 * c.val ≤ i ∧ i < 128 * c.val + 128 then Left b (128 * c + 128) i else Left b (128 * c) i))
    (i : Fin 2048) : after x c hi placed kc (ix2 0 i) = flag (Left b (128 * c + 128) i) := by
  have h := survive_apply _ _ (drops_apply r c hi hhi kc _ hkc) i
  unfold after
  pointwise
  rw [h, hp]
  have e : ∀ p q : Prop, flag p * flag q = flag (p ∧ q) := fun p q => by unfold flag; split_ifs <;> simp_all
  rw [e]
  apply flag_congr
  have hl : ∀ l < 128, Left b (128 * c + 128) (128 * c + l) ↔ Left b (128 * c + l) (128 * c + l) := fun l hl => by
    have := left_of_le b (i := 128 * c + l) (128 - l)
    rwa [show 128 * c.val + l + (128 - l) = 128 * c.val + 128 by omega] at this
  rw [left_add b (128 * c) 128 i]
  split_ifs with hc
  · refine ⟨fun h => h.1, fun h => ⟨h, ?_⟩⟩
    rintro ⟨l, ⟨_, h⟩, _⟩
    omega
  · refine and_congr_right fun _ => ⟨fun h l hl' h' => h ⟨⟨l, hl'⟩, ⟨h'.1.1, ?_⟩, (hl l hl').mpr h'.2⟩, ?_⟩
    · have := h'.1.2; omega
    · rintro h ⟨l, ⟨h1, h2⟩, h3⟩
      exact h l l.isLt ⟨⟨h1, by omega⟩, (hl l l.isLt).mp h3⟩

/-- The flags of a chunk after its own trips. -/
theorem chunkFlags_apply (c : Fin 16) (keep : FVec Ideal Row .f32)
    (hk : ∀ i : Fin 2048, keep (ix2 0 i) = flag (Left b (128 * c) i)) (l : Fin 128) :
    chunkFlags x c keep (ix2 0 l) = flag (Left b (128 * c + 128) (128 * c + l)) := by
  unfold chunkFlags
  apply intra_apply
  · exact r.lane
  · intro l; rw [chunk_apply, r.x1]
  · intro l; rw [chunk_apply, r.y1]
  · intro l; rw [chunk_apply, r.x2]
  · intro l; rw [chunk_apply, r.y2]
  · intro l; rw [chunk_apply, r.ar]
  · exact r.above
  · intro l; rw [chunk_apply, hk]

omit r in
/-- A row whose first 128 entries are replaced by a chunk. -/
theorem placeFirst_apply {α : Type} (v : Row.Idx → α) (kc : Lane.Idx → α) (i : Fin 2048) :
    placeFirst v kc (ix2 0 i) = if h : i.val < 128 then kc (ix2 0 ⟨i, h⟩) else v (ix2 0 i) := by
  unfold placeFirst
  pointwise
  by_cases h : i.val < 128
  · rw [dif_pos h, dif_pos h]
  · rw [dif_neg h, dif_neg h]
    exact congrArg (fun k => v (ix2 0 k)) (Fin.ext (by simp only; omega))

omit r in
/-- A row whose last 128 entries are replaced by a chunk. -/
theorem placeLast_apply {α : Type} (v : Row.Idx → α) (kc : Lane.Idx → α) (i : Fin 2048) :
    placeLast v kc (ix2 0 i) = if h : 1920 ≤ i.val then kc (ix2 0 ⟨i - 1920, by omega⟩) else v (ix2 0 i) := by
  unfold placeLast
  pointwise
  by_cases h : i.val < 1920
  · rw [dif_pos h, dif_neg (by omega)]
  · rw [dif_neg h, dif_pos (by omega)]

omit r in
/-- A row whose 128 entries from `p` on are replaced by a chunk. -/
theorem placeMid_apply {α : Type} (p q : Nat) (hp : Row.Slices ![0, 0] ⟨2, ![1, p]⟩) (hq : Row.Slices ![0, p + 128] ⟨2, ![1, q]⟩)
    (h : Shape.Concatenates [⟨2, ![1, p]⟩, Lane, ⟨2, ![1, q]⟩] Row 1) (v : Row.Idx → α) (kc : Lane.Idx → α) (i : Fin 2048) :
    placeMid p q hp hq h v kc (ix2 0 i) = if h : p ≤ i.val ∧ i.val < p + 128 then kc (ix2 0 ⟨i - p, by omega⟩) else v (ix2 0 i) := by
  unfold placeMid
  pointwise
  by_cases h1 : i.val < p
  · rw [dif_pos h1, dif_neg (by omega)]
    exact congrArg (fun k => v (ix2 0 k)) (Fin.ext (by simp [Shape.Idx.norm]))
  · rw [dif_neg h1]
    by_cases h2 : i.val - p < 128
    · rw [dif_pos h2, dif_pos (by omega)]
    · rw [dif_neg h2, dif_neg (by omega)]
      exact congrArg (fun k => v (ix2 0 k)) (Fin.ext (by simp [Shape.Idx.norm]; omega))

/-- The first chunk's step, from the flags before it. -/
theorem first_apply (keep : FVec Ideal Row .f32) (hk : ∀ i : Fin 2048, keep (ix2 0 i) = flag (Left b 0 i)) (i : Fin 2048) :
    first x keep (ix2 0 i) = flag (Left b 128 i) := by
  have hc := chunkFlags_apply r 0 keep hk
  refine after_apply r 0 _ rfl _ _ hc (fun i => ?_) i
  rw [placeFirst_apply]
  split_ifs with h h' h'
  · rw [hc]; simp
  · simp at h'; omega
  · simp at h'; omega
  · exact hk i

/-- The same for the last chunk. -/
theorem last_apply (keep : FVec Ideal Row .f32) (hk : ∀ i : Fin 2048, keep (ix2 0 i) = flag (Left b 1920 i)) (i : Fin 2048) :
    last x keep (ix2 0 i) = flag (Left b 2048 i) := by
  have hc := chunkFlags_apply r 15 keep hk
  refine after_apply r 15 _ rfl _ _ hc (fun i => ?_) i
  rw [placeLast_apply]
  split_ifs with h h' h'
  · rw [hc]; exact congrArg (fun n => flag (Left b (128 * 15 + 128) n)) (by simp only [Fin.reduceFinMk]; omega)
  · simp at h'; omega
  · simp at h'; omega
  · exact hk i

/-- The same for a chunk between them. -/
theorem middle_apply (c : Fin 16) (p q : Nat) (hi : BitVec 32) (hp : Row.Slices ![0, 0] ⟨2, ![1, p]⟩)
    (hq : Row.Slices ![0, p + 128] ⟨2, ![1, q]⟩) (h : Shape.Concatenates [⟨2, ![1, p]⟩, Lane, ⟨2, ![1, q]⟩] Row 1)
    (hcp : p = 128 * c.val) (hhi : hi = BitVec.ofNat 32 (p + 128))
    (keep : FVec Ideal Row .f32) (hk : ∀ i : Fin 2048, keep (ix2 0 i) = flag (Left b p i)) (i : Fin 2048) :
    middle x c p q hi hp hq h keep (ix2 0 i) = flag (Left b (p + 128) i) := by
  subst hcp
  have hc := chunkFlags_apply r c keep hk
  refine after_apply r c _ hhi _ _ hc (fun i => ?_) i
  rw [placeMid_apply]
  split_ifs with h
  · rw [hc]; exact congrArg (fun n => flag (Left b (128 * c + 128) n)) (by simp only; omega)
  · exact hk i

/-- The flags after the sixteen chunks say which candidates are left. -/
theorem flags_apply (i : Fin 2048) : flags x 16 (ix2 0 i) = flag (Left b 2048 i) := by
  have h0 : ∀ i : Fin 2048, flags x 0 (ix2 0 i) = flag (Left b 0 i) := fun i => by
    unfold flags; pointwise; simp [flag, Left]
  have h1 := first_apply r _ h0
  have h2 := middle_apply r 1 128 1792 256#32 (by decide) (by decide) (by decide) rfl rfl _ h1
  have h3 := middle_apply r 2 256 1664 384#32 (by decide) (by decide) (by decide) rfl rfl _ h2
  have h4 := middle_apply r 3 384 1536 512#32 (by decide) (by decide) (by decide) rfl rfl _ h3
  have h5 := middle_apply r 4 512 1408 640#32 (by decide) (by decide) (by decide) rfl rfl _ h4
  have h6 := middle_apply r 5 640 1280 768#32 (by decide) (by decide) (by decide) rfl rfl _ h5
  have h7 := middle_apply r 6 768 1152 896#32 (by decide) (by decide) (by decide) rfl rfl _ h6
  have h8 := middle_apply r 7 896 1024 1024#32 (by decide) (by decide) (by decide) rfl rfl _ h7
  have h9 := middle_apply r 8 1024 896 1152#32 (by decide) (by decide) (by decide) rfl rfl _ h8
  have h10 := middle_apply r 9 1152 768 1280#32 (by decide) (by decide) (by decide) rfl rfl _ h9
  have h11 := middle_apply r 10 1280 640 1408#32 (by decide) (by decide) (by decide) rfl rfl _ h10
  have h12 := middle_apply r 11 1408 512 1536#32 (by decide) (by decide) (by decide) rfl rfl _ h11
  have h13 := middle_apply r 12 1536 384 1664#32 (by decide) (by decide) (by decide) rfl rfl _ h12
  have h14 := middle_apply r 13 1664 256 1792#32 (by decide) (by decide) (by decide) rfl rfl _ h13
  have h15 := middle_apply r 14 1792 128 1920#32 (by decide) (by decide) (by decide) rfl rfl _ h14
  exact last_apply r _ h15 i

end Cert.Nms

end
-- ==== Proof.Value.Decode.lean ====
/-
  The decoded boxes as extended reals: corners clipped to the image, areas, and the bound under which the kernel's masked
  maxima return the box they select.
-/
module

public import proofs.«01_k».proof.Proof.Value.Chunks

@[expose] public section

noncomputable section

namespace Cert.Nms

open Idealize.ShloMosaic
open Classical

/-- The side of an interval. -/
def sideE (lo hi : EReal) : EReal := hi - lo + 1

/-- Clipping to `[0, hi]`, for the word `hi`. -/
def clipE (hi : BitVec 32) (v : EReal) : EReal := min (Ideal.ofBits .f32 hi) (max 0 v)

/-- The decoded centre. -/
def ctrE (lo hi d : EReal) : EReal := d * sideE lo hi + (lo + Ideal.ofBits .f32 0x3F000000#32 * sideE lo hi)

/-- The decoded extent. -/
def extE (lo hi d : EReal) : EReal := Ideal.exp (min d (Ideal.ofBits .f32 0x40845349#32)) * sideE lo hi

/-- The lower corner along one axis … -/
def lowerE (top : BitVec 32) (lo hi d e : EReal) : EReal :=
  clipE top (ctrE lo hi d - Ideal.ofBits .f32 0x3F000000#32 * extE lo hi e)

/-- … and the upper one. -/
def upperE (top : BitVec 32) (lo hi d e : EReal) : EReal :=
  clipE top (ctrE lo hi d + Ideal.ofBits .f32 0x3F000000#32 * extE lo hi e - 1)

/-- The box of an anchor's corners `a` and its regression `r`. -/
def boxOf (a r : Fin 4 → EReal) : Box where
  x1 := lowerE 0x447FC000#32 (a 0) (a 2) (r 0) (r 2)
  y1 := lowerE 0x4447C000#32 (a 1) (a 3) (r 1) (r 3)
  x2 := upperE 0x447FC000#32 (a 0) (a 2) (r 0) (r 2)
  y2 := upperE 0x4447C000#32 (a 1) (a 3) (r 1) (r 3)
  ar := sideE (lowerE 0x447FC000#32 (a 0) (a 2) (r 0) (r 2)) (upperE 0x447FC000#32 (a 0) (a 2) (r 0) (r 2))
    * sideE (lowerE 0x4447C000#32 (a 1) (a 3) (r 1) (r 3)) (upperE 0x4447C000#32 (a 1) (a 3) (r 1) (r 3))

/-- The word of the image's right edge. -/
theorem ofBits_right : Ideal.ofBits .f32 0x447FC000#32 = ((1023 : ℝ) : EReal) := by
  simp [Ideal.ofBits, Ideal.ieee, -EReal.coe_mul]; norm_num

/-- The word of its bottom edge. -/
theorem ofBits_bottom : Ideal.ofBits .f32 0x4447C000#32 = ((799 : ℝ) : EReal) := by
  simp [Ideal.ofBits, Ideal.ieee, -EReal.coe_mul]; norm_num

/-- The word of the masked maxima's fill lies far below zero. -/
theorem ofBits_far : Ideal.ofBits .f32 0xF149F2CA#32 ≤ ((-10000000 : ℝ) : EReal) := by
  simp [Ideal.ofBits, Ideal.ieee, -EReal.coe_mul]; norm_num

/-- A clipped value is a real between 0 and the bound. -/
theorem clip_real (w : BitVec 32) (t : ℝ) (ht : 0 ≤ t) (hw : Ideal.ofBits .f32 w = (t : EReal)) (v : EReal) :
    ∃ r : ℝ, clipE w v = (r : EReal) ∧ 0 ≤ r ∧ r ≤ t := by
  have h0 : (0 : EReal) ≤ clipE w v := by
    unfold clipE
    rw [hw]
    exact le_min (by exact_mod_cast ht) (le_max_left _ _)
  have h1 : clipE w v ≤ (t : EReal) := by
    unfold clipE
    rw [hw]
    exact min_le_left _ _
  lift clipE w v to ℝ using ⟨ne_top_of_le_ne_top (EReal.coe_ne_top t) h1, ne_bot_of_le_ne_bot EReal.zero_ne_bot h0⟩ with r
  exact ⟨r, rfl, by exact_mod_cast h0, by exact_mod_cast h1⟩

/-- A decoded box lies above the word the masked maxima fill with. -/
theorem boxOf_above (a r : Fin 4 → EReal) : (boxOf a r).Above := by
  have hx : ∀ v, ∃ r : ℝ, clipE 0x447FC000#32 v = (r : EReal) ∧ 0 ≤ r ∧ r ≤ 1023 := clip_real _ _ (by norm_num) ofBits_right
  have hy : ∀ v, ∃ r : ℝ, clipE 0x4447C000#32 v = (r : EReal) ∧ 0 ≤ r ∧ r ≤ 799 := clip_real _ _ (by norm_num) ofBits_bottom
  have far : ∀ s : ℝ, -10000000 ≤ s → Ideal.ofBits .f32 0xF149F2CA#32 ≤ (s : EReal) := fun s hs =>
    ofBits_far.trans (by exact_mod_cast hs)
  unfold Box.Above boxOf lowerE upperE
  dsimp only
  obtain ⟨x1, ex1, hx1, hx1'⟩ := hx (ctrE (a 0) (a 2) (r 0) - Ideal.ofBits .f32 0x3F000000#32 * extE (a 0) (a 2) (r 2))
  obtain ⟨y1, ey1, hy1, hy1'⟩ := hy (ctrE (a 1) (a 3) (r 1) - Ideal.ofBits .f32 0x3F000000#32 * extE (a 1) (a 3) (r 3))
  obtain ⟨x2, ex2, hx2, hx2'⟩ := hx (ctrE (a 0) (a 2) (r 0) + Ideal.ofBits .f32 0x3F000000#32 * extE (a 0) (a 2) (r 2) - 1)
  obtain ⟨y2, ey2, hy2, hy2'⟩ := hy (ctrE (a 1) (a 3) (r 1) + Ideal.ofBits .f32 0x3F000000#32 * extE (a 1) (a 3) (r 3) - 1)
  rw [ex1, ey1, ex2, ey2]
  refine ⟨far _ (by linarith), far _ (by linarith), far _ (by linarith), far _ (by linarith), ?_⟩
  have e : sideE (x1 : EReal) x2 * sideE (y1 : EReal) y2 = (((x2 - x1 + 1) * (y2 - y1 + 1) : ℝ) : EReal) := by
    unfold sideE
    push_cast
    rfl
  rw [e]
  refine far _ ?_
  nlinarith [mul_nonneg (show 0 ≤ 1024 - (x2 - x1 + 1) + 0 by linarith) (show 0 ≤ 1024 + (y2 - y1 + 1) by linarith),
    mul_nonneg (show 0 ≤ 1024 + (x2 - x1 + 1) by linarith) (show 0 ≤ 1024 - (y2 - y1 + 1) by linarith)]

/-- Component `k` of a block by rows. -/
theorem part_apply {α : Type} (k : Fin 4) (v : (⟨3, ![1, 4, 2048]⟩ : Shape).Idx → α) (i : Fin 2048) :
    part k v (ix2 0 i) = v (ix3 0 k i) := by
  unfold part
  pointwise

/-- Component `k` of a block by columns. -/
theorem partT_apply {α : Type} (k : Fin 4) (v : (⟨4, ![1, 4, 128, 16]⟩ : Shape).Idx → α) (l : Fin 128) (c : Fin 16) :
    partT k v (ix2 l c) = v (ix4 0 k l c) := by
  unfold partT
  pointwise

section

variable (a r : FVec Ideal ⟨3, ![1, 4, 2048]⟩ .f32) (aT rT : FVec Ideal ⟨4, ![1, 4, 128, 16]⟩ .f32) (A R : Nat → Fin 4 → EReal)

/-- From blocks that hold the anchors and regressions, the body's context holds the decoded boxes. -/
theorem ctx_reads (ha : ∀ k (i : Fin 2048), a (ix3 0 k i) = A i k) (hr : ∀ k (i : Fin 2048), r (ix3 0 k i) = R i k)
    (haT : ∀ k (l : Fin 128) (c : Fin 16), aT (ix4 0 k l c) = A (128 * c + l) k)
    (hrT : ∀ k (l : Fin 128) (c : Fin 16), rT (ix4 0 k l c) = R (128 * c + l) k) :
    Reads (ctx a r aT rT) (fun i => boxOf (A i) (R i)) where
  x1 i := by
    unfold ctx; pointwise; simp only [part_apply, ha, hr]; rfl
  y1 i := by
    unfold ctx; pointwise; simp only [part_apply, ha, hr]; rfl
  x2 i := by
    unfold ctx; pointwise; simp only [part_apply, ha, hr]; rfl
  y2 i := by
    unfold ctx; pointwise; simp only [part_apply, ha, hr]; rfl
  ar i := by
    unfold ctx; pointwise; simp only [part_apply, ha, hr]; rfl
  x1T l c := by
    unfold ctx; pointwise; simp only [partT_apply, haT, hrT]; rfl
  y1T l c := by
    unfold ctx; pointwise; simp only [partT_apply, haT, hrT]; rfl
  x2T l c := by
    unfold ctx; pointwise; simp only [partT_apply, haT, hrT]; rfl
  y2T l c := by
    unfold ctx; pointwise; simp only [partT_apply, haT, hrT]; rfl
  arT l c := by
    unfold ctx; pointwise; simp only [partT_apply, haT, hrT]; rfl
  lane l := by
    unfold ctx; pointwise
  glob i := by
    unfold ctx; pointwise
  diag k l := by
    unfold ctx; pointwise
    rw [word_eq_iff _ _ (by omega) (by omega), Fin.ext_iff]
  above n := boxOf_above _ _

end

/-- A corner of a box. -/
def Box.corner (b : Box) : Fin 4 → EReal
  | 0 => b.x1
  | 1 => b.y1
  | 2 => b.x2
  | 3 => b.y2

/-- A box of non-negative sides. -/
def Box.Proper (b : Box) : Prop := 0 ≤ sideE b.x1 b.x2 ∧ 0 ≤ sideE b.y1 b.y2

/-- The score `s` of candidate `i` if it is left after `n` candidates and of non-negative sides, the word of −10⁹ if not. -/
def maskedE (b : Nat → Box) (n i : Nat) (s : EReal) : EReal :=
  if Left b n i ∧ (b i).Proper then s else Ideal.ofBits .f32 0xCE6E6B28#32

/-- A selection by a word that says `p`, for any way to decide `p`. -/
theorem select_dec {α : Type} {c : BitVec 1} {p : Prop} {_ : Decidable p} (h : c = 1#1 ↔ p) (a b : α) :
    Scalar.select c a b = if p then a else b := by
  unfold Scalar.select
  by_cases hp : p
  · rw [if_pos hp]; exact if_pos (h.mpr hp)
  · rw [if_neg hp]; exact if_neg (fun hc => hp (h.mp hc))

/-- The body's scores. -/
theorem scores_apply {x : Ctx Ideal} {b : Nat → Box} (r : Reads x b) (s : FVec Ideal ⟨3, ![1, 1, 2048]⟩ .f32) (i : Fin 2048) :
    scores x s (ix3 0 0 i) = maskedE b 2048 i (s (ix3 0 0 i)) := by
  unfold scores proper maskedE Box.Proper sideE
  pointwise
  refine select_dec ?_ _ _
  rw [IntOp.andi_eq_one, IntOp.andi_eq_one, ofBool_one_iff, ofBool_one_iff, ofBool_one_iff, decide_eq_true_eq, decide_eq_true_eq,
    decide_eq_true_eq, flags_apply r, half_lt_flag, r.x1, r.x2, r.y1, r.y2]

/-- The body's boxes. -/
theorem corners_apply {x : Ctx Ideal} {b : Nat → Box} (r : Reads x b) (k : Fin 4) (i : Fin 2048) :
    corners x.row (ix3 0 k i) = (b i).corner k := by
  unfold corners
  fin_cases k
  · pointwise
    exact r.x1 i
  · pointwise
    exact r.y1 i
  · pointwise
    exact r.x2 i
  · pointwise
    exact r.y2 i

end Cert.Nms

end
-- ==== Proof.Value.Result.lean ====
/-
  What both programs select from: each image's 2000 boxes and their scores after suppression.
-/
module

public import proofs.«01_k».proof.Proof.Value.Spec
public import proofs.«01_k».proof.Proof.Value.Decode

@[expose] public section

noncomputable section

namespace Cert.Spec

open Idealize.ShloMosaic
open Cert.Nms

variable (a : FVec Ideal ⟨3, ![4, 147456, 4]⟩ .f32) (o : FVec Ideal ⟨4, ![4, 3, 192, 256]⟩ .f32) (r : FVec Ideal ⟨4, ![4, 12, 192, 256]⟩ .f32)

/-- The decoded box of candidate `i` of image `n`. -/
def boxAt (n : Fin 4) (i : Nat) : Box := boxOf (ancAt a o n i) (relAt r o n i)

/-- The score of candidate `i` after suppression. -/
def keptAt (n : Fin 4) (i : Nat) : EReal := maskedE (boxAt a o r n) i i (topAt o n i)

/-- A candidate is left by all those before it as soon as it is left by any number that covers them. -/
theorem masked_of_le (b : Nat → Box) (n i : Nat) (h : i ≤ n) (s : EReal) : maskedE b n i s = maskedE b i i s := by
  obtain ⟨k, rfl⟩ := Nat.exists_eq_add_of_le h
  unfold maskedE
  rw [left_of_le]

/-- The results: the boxes selected, … -/
def allBoxes : FVec Ideal ⟨3, ![4, 1000, 4]⟩ .f32 := fun j =>
  resBoxes (fun n i => keptAt a o r n i.val) (fun n i k => (boxAt a o r n i.val).corner k) (j 0) (j 1) (j 2)

/-- … and their scores. -/
def allScores : FVec Ideal ⟨2, ![4, 1000]⟩ .f32 := fun j => resScores (fun n i => keptAt a o r n i.val) (j 0) (j 1)

end Cert.Spec

end
-- ==== Proof.Value.Output.lean ====
/-
  The two arrays the kernel's call leaves: each image's scores after suppression, and its boxes' corners.
-/
module

public import proofs.«01_k».proof.Proof.Value.Host
public import proofs.«01_k».proof.Proof.Value.Result
public import Idealize.ShloMosaic.Lib.Pipeline.Value
public import Idealize.ShloMosaic.Lib.Pipeline.ValueKit

@[expose] public section

set_option maxRecDepth 16384

noncomputable section

namespace Cert.Spec

open Idealize.ShloMosaic Idealize.ShloMosaic.TcCoe Idealize.ShloMosaic.StableHlo
open Idealize.ShloMosaic.Pipeline (Dat)
open Cert.KernelIdeal Cert.KernelIdeal.Gen Cert.KernelIdeal.Body Cert.Nms

variable (m : (ℓ : Loc nD τ sig) → Buf (Elt Ideal) ℓ) (c : Dev nD)

/-- The image of a grid point. -/
def image (t : Fin cfg0.N) : Fin 4 := ⟨t.val, lt_of_lt_of_eq t.isLt (by decide)⟩

/-- Window 0 (scores) is at the block of the grid point's image. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
/-- Window 1 (anchors by row), likewise. -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
/-- Window 2 (regressions by row), likewise. -/
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
/-- Window 3 (anchors by column), likewise. -/
theorem idx3 : ∀ t : Fin cfg0.N, win0_3.index t (0 : Fin 4) = t.val ∧ win0_3.index t (1 : Fin 4) = 0 ∧ win0_3.index t (2 : Fin 4) = 0
    ∧ win0_3.index t (3 : Fin 4) = 0 :=
  (by decide +kernel : ∀ t : Fin grid0.N, _)
/-- Window 4 (regressions by column), likewise. -/
theorem idx4 : ∀ t : Fin cfg0.N, win0_4.index t (0 : Fin 4) = t.val ∧ win0_4.index t (1 : Fin 4) = 0 ∧ win0_4.index t (2 : Fin 4) = 0
    ∧ win0_4.index t (3 : Fin 4) = 0 :=
  (by decide +kernel : ∀ t : Fin grid0.N, _)
/-- Window 5 (scores out), likewise. -/
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
/-- Window 6 (boxes out), likewise. -/
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)

/-- An index of a window's block is the index of the same rows in the grid point's image. -/
theorem emb0 (t : Fin cfg0.N) (z : Fin 1) (k : Fin 1) (i : Fin 2048) : ((cfg0.win 0).blk t).view.emb (ix3 z k i : S1x1x2048.Idx) = (ix3 (image t) k i : S4x1x2048.Idx) := by
  obtain ⟨e0, e1, e2⟩ := idx0 t
  funext a; apply Fin.ext
  match a with
  | ⟨0, _⟩ => show win0_0.index t (0 : Fin 3) * 1 + 1 * z.val = t.val; omega
  | ⟨1, _⟩ => show win0_0.index t (1 : Fin 3) * 1 + 1 * k.val = k.val; omega
  | ⟨2, _⟩ => show win0_0.index t (2 : Fin 3) * 2048 + 1 * i.val = i.val; omega

/-- The same for the anchors by row. -/
theorem emb1 (t : Fin cfg0.N) (z : Fin 1) (k : Fin 4) (i : Fin 2048) : ((cfg0.win 1).blk t).view.emb (ix3 z k i : S1x4x2048.Idx) = (ix3 (image t) k i : S4x4x2048.Idx) := by
  obtain ⟨e0, e1, e2⟩ := idx1 t
  funext a; apply Fin.ext
  match a with
  | ⟨0, _⟩ => show win0_1.index t (0 : Fin 3) * 1 + 1 * z.val = t.val; omega
  | ⟨1, _⟩ => show win0_1.index t (1 : Fin 3) * 4 + 1 * k.val = k.val; omega
  | ⟨2, _⟩ => show win0_1.index t (2 : Fin 3) * 2048 + 1 * i.val = i.val; omega

/-- The same for the regressions by row. -/
theorem emb2 (t : Fin cfg0.N) (z : Fin 1) (k : Fin 4) (i : Fin 2048) : ((cfg0.win 2).blk t).view.emb (ix3 z k i : S1x4x2048.Idx) = (ix3 (image t) k i : S4x4x2048.Idx) := by
  obtain ⟨e0, e1, e2⟩ := idx2 t
  funext a; apply Fin.ext
  match a with
  | ⟨0, _⟩ => show win0_2.index t (0 : Fin 3) * 1 + 1 * z.val = t.val; omega
  | ⟨1, _⟩ => show win0_2.index t (1 : Fin 3) * 4 + 1 * k.val = k.val; omega
  | ⟨2, _⟩ => show win0_2.index t (2 : Fin 3) * 2048 + 1 * i.val = i.val; omega

/-- The same for the anchors by column. -/
theorem emb3 (t : Fin cfg0.N) (z : Fin 1) (k : Fin 4) (l : Fin 128) (j : Fin 16) : ((cfg0.win 3).blk t).view.emb (ix4 z k l j : S1x4x128x16.Idx) = (ix4 (image t) k l j : S4x4x128x16.Idx) := by
  obtain ⟨e0, e1, e2, e3⟩ := idx3 t
  funext a; apply Fin.ext
  match a with
  | ⟨0, _⟩ => show win0_3.index t (0 : Fin 4) * 1 + 1 * z.val = t.val; omega
  | ⟨1, _⟩ => show win0_3.index t (1 : Fin 4) * 4 + 1 * k.val = k.val; omega
  | ⟨2, _⟩ => show win0_3.index t (2 : Fin 4) * 128 + 1 * l.val = l.val; omega
  | ⟨3, _⟩ => show win0_3.index t (3 : Fin 4) * 16 + 1 * j.val = j.val; omega

/-- The same for the regressions by column. -/
theorem emb4 (t : Fin cfg0.N) (z : Fin 1) (k : Fin 4) (l : Fin 128) (j : Fin 16) : ((cfg0.win 4).blk t).view.emb (ix4 z k l j : S1x4x128x16.Idx) = (ix4 (image t) k l j : S4x4x128x16.Idx) := by
  obtain ⟨e0, e1, e2, e3⟩ := idx4 t
  funext a; apply Fin.ext
  match a with
  | ⟨0, _⟩ => show win0_4.index t (0 : Fin 4) * 1 + 1 * z.val = t.val; omega
  | ⟨1, _⟩ => show win0_4.index t (1 : Fin 4) * 4 + 1 * k.val = k.val; omega
  | ⟨2, _⟩ => show win0_4.index t (2 : Fin 4) * 128 + 1 * l.val = l.val; omega
  | ⟨3, _⟩ => show win0_4.index t (3 : Fin 4) * 16 + 1 * j.val = j.val; omega

/-- The same for the scores going out. -/
theorem emb5 (t : Fin cfg0.N) (z : Fin 1) (k : Fin 1) (i : Fin 2048) : ((cfg0.win 5).blk t).view.emb (ix3 z k i : S1x1x2048.Idx) = (ix3 (image t) k i : S4x1x2048.Idx) := by
  obtain ⟨e0, e1, e2⟩ := idx5 t
  funext a; apply Fin.ext
  match a with
  | ⟨0, _⟩ => show win0_5.index t (0 : Fin 3) * 1 + 1 * z.val = t.val; omega
  | ⟨1, _⟩ => show win0_5.index t (1 : Fin 3) * 1 + 1 * k.val = k.val; omega
  | ⟨2, _⟩ => show win0_5.index t (2 : Fin 3) * 2048 + 1 * i.val = i.val; omega

/-- The same for the boxes going out. -/
theorem emb6 (t : Fin cfg0.N) (z : Fin 1) (k : Fin 4) (i : Fin 2048) : ((cfg0.win 6).blk t).view.emb (ix3 z k i : S1x4x2048.Idx) = (ix3 (image t) k i : S4x4x2048.Idx) := by
  obtain ⟨e0, e1, e2⟩ := idx6 t
  funext a; apply Fin.ext
  match a with
  | ⟨0, _⟩ => show win0_6.index t (0 : Fin 3) * 1 + 1 * z.val = t.val; omega
  | ⟨1, _⟩ => show win0_6.index t (1 : Fin 3) * 4 + 1 * k.val = k.val; omega
  | ⟨2, _⟩ => show win0_6.index t (2 : Fin 3) * 2048 + 1 * i.val = i.val; omega

/-- The boxes of image `n`, from the arguments as launched. -/
abbrev boxes (n : Fin 4) : Nat → Box := boxAt (arg0 m c) (arg1 m c) (arg2 m c) n

/-- The scores after suppression, and the corners, as whole arrays. -/
def outScores : FVec Ideal S4x1x2048 .f32 := fun j => maskedE (boxes m c (j 0)) 2048 (j 2).val (topAt (arg1 m c) (j 0) (j 2).val)
/-- The corners of the boxes, as a whole array. -/
def outBoxes : FVec Ideal S4x4x2048 .f32 := fun j => (boxes m c (j 0) (j 2).val).corner (j 1)

/-- The block of scores at a grid point: its image's 2048 candidates. -/
theorem blk0 (t : Fin cfg0.N) (i : Fin 2048) : iblk m c 0 t (ix3 0 0 i : S1x1x2048.Idx) = topAt (arg1 m c) (image t) i.val := by
  show V0 m c (Proc.devRef .tc main_v42) (((cfg0.win 0).blk t).view.emb (ix3 0 0 i : S1x1x2048.Idx)) = _
  rw [emb0]
  exact in_scores m c _ i

/-- The block of anchors by row. -/
theorem blk1 (t : Fin cfg0.N) (k : Fin 4) (i : Fin 2048) : iblk m c 1 t (ix3 0 k i : S1x4x2048.Idx) = ancAt (arg0 m c) (arg1 m c) (image t) i.val k := by
  show V0 m c (Proc.devRef .tc main_v45) (((cfg0.win 1).blk t).view.emb (ix3 0 k i : S1x4x2048.Idx)) = _
  rw [emb1]
  exact in_anc m c _ k i

/-- The block of regressions by row. -/
theorem blk2 (t : Fin cfg0.N) (k : Fin 4) (i : Fin 2048) : iblk m c 2 t (ix3 0 k i : S1x4x2048.Idx) = relAt (arg2 m c) (arg1 m c) (image t) i.val k := by
  show V0 m c (Proc.devRef .tc main_v46) (((cfg0.win 2).blk t).view.emb (ix3 0 k i : S1x4x2048.Idx)) = _
  rw [emb2]
  exact in_rel m c _ k i

/-- The block of anchors by column. -/
theorem blk3 (t : Fin cfg0.N) (k : Fin 4) (l : Fin 128) (j : Fin 16) :
    iblk m c 3 t (ix4 0 k l j : S1x4x128x16.Idx) = ancAt (arg0 m c) (arg1 m c) (image t) (128 * j.val + l.val) k := by
  show V0 m c (Proc.devRef .tc main_v48) (((cfg0.win 3).blk t).view.emb (ix4 0 k l j : S1x4x128x16.Idx)) = _
  rw [emb3, Nat.mul_comm]
  exact in_anc_col m c _ k l j

/-- The block of regressions by column. -/
theorem blk4 (t : Fin cfg0.N) (k : Fin 4) (l : Fin 128) (j : Fin 16) :
    iblk m c 4 t (ix4 0 k l j : S1x4x128x16.Idx) = relAt (arg2 m c) (arg1 m c) (image t) (128 * j.val + l.val) k := by
  show V0 m c (Proc.devRef .tc main_v50) (((cfg0.win 4).blk t).view.emb (ix4 0 k l j : S1x4x128x16.Idx)) = _
  rw [emb4, Nat.mul_comm]
  exact in_rel_col m c _ k l j

/-- The body's context at a grid point holds the image's boxes. -/
theorem point_reads (t : Fin cfg0.N) : Reads (ctx (iblk m c 1 t) (iblk m c 2 t) (iblk m c 3 t) (iblk m c 4 t)) (boxes m c (image t)) :=
  ctx_reads _ _ _ _ _ _ (blk1 m c t) (blk2 m c t) (blk3 m c t) (blk4 m c t)

/-- Three zeros, as a function. -/
theorem zeros3 : (![0, 0, 0] : Fin 3 → Nat) = fun _ => 0 := by decide
/-- Four zeros, as a function. -/
theorem zeros4 : (![0, 0, 0, 0] : Fin 4 → Nat) = fun _ => 0 := by decide

/-- What the body leaves for the scores, with its whole-buffer loads and store read off. -/
theorem out5_eq (x0 : Vec Ideal S1x1x2048 .f32) (x1 x2 : Vec Ideal S1x4x2048 .f32) (x3 x4 : Vec Ideal S1x4x128x16 .f32) :
    out0_5 x0 x1 x2 x3 x4 = Nms.scores (F := Ideal) (Nms.ctx x1 x2 x3 x4) x0 := by
  unfold out0_5 r0_0 r0_1 r0_2
  rw [View.canon_unit_zero zeros3, View.ld_unit_zero zeros3, View.ld_unit_zero zeros3, View.ld_unit_zero zeros4, View.ld_unit_zero zeros4,
    View.ld_unit_zero zeros3]

/-- What it leaves for the boxes, likewise. -/
theorem out6_eq (x0 : Vec Ideal S1x1x2048 .f32) (x1 x2 : Vec Ideal S1x4x2048 .f32) (x3 x4 : Vec Ideal S1x4x128x16 .f32) :
    out0_6 x0 x1 x2 x3 x4 = Nms.corners (F := Ideal) (Nms.ctx x1 x2 x3 x4).row := by
  unfold out0_6 r0_1 r0_2
  rw [View.canon_unit_zero zeros3, View.ld_unit_zero zeros3, View.ld_unit_zero zeros3, View.ld_unit_zero zeros4, View.ld_unit_zero zeros4]

/-- The scores that a grid point writes back are its image's part of the whole array. -/
theorem flushed5 (t : Fin cfg0.N) : (dats m 0 c).flushed 5 t = ((cfg0.win 5).blk t).view.read (Elt Ideal) (outScores m c) := by
  show (cfg0.win 5).cut (grid0.coords t) ((dats m 0 c).after 5 t) = _
  rw [after0_5, out5_eq]
  funext j
  obtain ⟨z, k, i, rfl⟩ : ∃ (z : Fin 1) (k : Fin 1) (i : Fin 2048), j = (ix3 z k i : S1x1x2048.Idx) := ⟨j 0, j 1, j 2, eq_ix3 j⟩
  obtain rfl : z = 0 := Subsingleton.elim _ _
  obtain rfl : k = 0 := Subsingleton.elim _ _
  show Nms.scores (F := Ideal) _ _ (ix3 0 0 i) = outScores m c (((cfg0.win 5).blk t).view.emb (ix3 0 0 i : S1x1x2048.Idx))
  rw [scores_apply (point_reads m c t), emb5, blk0]
  rfl

/-- The boxes that it writes back, likewise. -/
theorem flushed6 (t : Fin cfg0.N) : (dats m 0 c).flushed 6 t = ((cfg0.win 6).blk t).view.read (Elt Ideal) (outBoxes m c) := by
  show (cfg0.win 6).cut (grid0.coords t) ((dats m 0 c).after 6 t) = _
  rw [after0_6, out6_eq]
  funext j
  obtain ⟨z, k, i, rfl⟩ : ∃ (z : Fin 1) (k : Fin 4) (i : Fin 2048), j = (ix3 z k i : S1x4x2048.Idx) := ⟨j 0, j 1, j 2, eq_ix3 j⟩
  obtain rfl : z = 0 := Subsingleton.elim _ _
  show Nms.corners (F := Ideal) _ (ix3 0 k i) = outBoxes m c (((cfg0.win 6).blk t).view.emb (ix3 0 k i : S1x4x2048.Idx))
  rw [corners_apply (point_reads m c t), emb6]
  rfl

/-- Every index of an output array is in its image's block. -/
theorem covered5 (j : S4x1x2048.Idx) : ∃ t : Fin cfg0.N, (cfg0.win 5).flush t = true ∧ j ∈ ((cfg0.win 5).blk t).view.set := by
  obtain ⟨n, k, i, rfl⟩ : ∃ (n : Fin 4) (k : Fin 1) (i : Fin 2048), j = (ix3 n k i : S4x1x2048.Idx) := ⟨j 0, j 1, j 2, eq_ix3 j⟩
  refine ⟨(⟨n.val, n.isLt⟩ : Fin cfg0.N), flush0_5 _, ?_⟩
  have h := ((cfg0.win 5).blk (⟨n.val, n.isLt⟩ : Fin cfg0.N)).view.emb_mem_set (ix3 0 k i : S1x1x2048.Idx)
  have e := emb5 ⟨n.val, n.isLt⟩ 0 k i
  exact e ▸ h

/-- The same for the boxes. -/
theorem covered6 (j : S4x4x2048.Idx) : ∃ t : Fin cfg0.N, (cfg0.win 6).flush t = true ∧ j ∈ ((cfg0.win 6).blk t).view.set := by
  obtain ⟨n, k, i, rfl⟩ : ∃ (n : Fin 4) (k : Fin 4) (i : Fin 2048), j = (ix3 n k i : S4x4x2048.Idx) := ⟨j 0, j 1, j 2, eq_ix3 j⟩
  refine ⟨(⟨n.val, n.isLt⟩ : Fin cfg0.N), flush0_6 _, ?_⟩
  have h := ((cfg0.win 6).blk (⟨n.val, n.isLt⟩ : Fin cfg0.N)).view.emb_mem_set (ix3 0 k i : S1x4x2048.Idx)
  have e := emb6 ⟨n.val, n.isLt⟩ 0 k i
  exact e ▸ h

/-- After the last grid point the array of scores is `outScores` … -/
theorem final5 : (dats m 0 c).arrAt 5 cfg0.N = outScores m c :=
  (dats m 0 c).arrAt_eq_of_cover 5 (outScores m c) (fun t _ => flushed5 m c t) covered5

/-- … and the array of boxes is `outBoxes`. -/
theorem final6 : (dats m 0 c).arrAt 6 cfg0.N = outBoxes m c :=
  (dats m 0 c).arrAt_eq_of_cover 6 (outBoxes m c) (fun t _ => flushed6 m c t) covered6

end Cert.Spec

end
-- ==== Proof.Value.KSuffix.lean ====
/-
  The kernel's lines after the call: the 1000 best of the scores it left, with their boxes.
-/
module

public import proofs.«01_k».proof.Proof.Value.Spec
public import proofs.«01_k».proof.Proof.KI.Frame
public import Idealize.ShloMosaic.Lib.StableHlo.ReadAt

@[expose] public section

set_option maxRecDepth 16384

noncomputable section

namespace Cert.Spec

open Idealize.ShloMosaic Idealize.ShloMosaic.TcCoe Idealize.ShloMosaic.StableHlo
open Cert.KernelIdeal Cert.KernelIdeal.Gen

local notation "F" => Ideal

variable (V : Valuation τ sig (Elt Ideal)) (s : Fin 4 → Fin 2000 → EReal) (b : Fin 4 → Fin 2000 → Fin 4 → EReal)

/-- The lines after the first selection. -/
def rest : Valuation τ sig (Elt Ideal) := after hostOps1_5 (after hostOps1_4 (after hostOps1_3 (after hostOps1_2 (after hostOps1_1 V))))

/-- The scores that the last selection reads: the call's first 2000 of each image. -/
theorem k_masked (n : Fin 4) (i : Fin 2000) : (after hostOps1 V (Proc.devRef .tc main_v53) : FVec Ideal S4x2000 .f32) (ix2 n i)
    = (V (Proc.devRef .tc main_v51_0) : FVec Ideal S4x1x2048 .f32) (ix3 n 0 ⟨i.val, by omega⟩) := by
  after_reads_at

/-- The boxes that it takes from: the call's first 2000, corners last. -/
theorem k_boxes (n : Fin 4) (i : Fin 2000) (k : Fin 4) : (after hostOps1 V (Proc.devRef .tc main_v55) : FVec Ideal S4x2000x4 .f32) (ix3 n i k)
    = (V (Proc.devRef .tc main_v51_1) : FVec Ideal S4x4x2048 .f32) (ix3 n k ⟨i.val, by omega⟩) := by
  after_reads_at

/-- The scores selected, … -/
theorem k_sel_val (hs : ∀ n (i : Fin 2000), (V (Proc.devRef .tc main_v51_0) : FVec Ideal S4x1x2048 .f32) (ix3 n 0 ⟨i.val, by omega⟩) = s n i)
    (n : Fin 4) (i : Fin 1000) : (after hostOps1 V (Proc.devRef .tc main_values_8) : FVec Ideal S4x1000 .f32) (ix2 n i) = s n (sel s n i) := by
  have e : (after hostOps1 V (Proc.devRef .tc main_values_8) : FVec Ideal S4x1000 .f32)
      = (Host.topK ⟨2, ![4, 1000]⟩ 1 gt (after hostOps1 V (Proc.devRef .tc main_v53) : FVec Ideal S4x2000 .f32)
        sliceFits_S4x2000_S4x1000).1 := by
    after_reads_simp
  rw [e]
  exact topk1000_val_of _ _ n (s n) (fun f => (k_masked V n f).trans (hs n f)) i

/-- … and their positions. -/
theorem k_sel_idx (hs : ∀ n (i : Fin 2000), (V (Proc.devRef .tc main_v51_0) : FVec Ideal S4x1x2048 .f32) (ix3 n 0 ⟨i.val, by omega⟩) = s n i)
    (n : Fin 4) (i : Fin 1000) : (after hostOps1 V (Proc.devRef .tc main_v56) : IVec S4x1000x1 32) (ix3 n i 0) = BitVec.ofNat 32 (sel s n i).val := by
  have e : (after hostOps1 V (Proc.devRef .tc main_v56) : IVec S4x1000x1 32)
      = broadcastInDim S4x1000x1 ![0, 1] bcast_S4x1000_S4x1000x1_0_1
        (Host.topK ⟨2, ![4, 1000]⟩ 1 gt (after hostOps1 V (Proc.devRef .tc main_v53) : FVec Ideal S4x2000 .f32)
        sliceFits_S4x2000_S4x1000).2 := by
    after_reads_simp
  rw [e]
  pointwise
  exact topk1000_idx_of _ _ n (s n) (fun f => (k_masked V n f).trans (hs n f)) i

/-- A result's score, from the selected score `t`: zero where that does not pass the word of −10⁸. -/
theorem k_rest_scores (n : Fin 4) (i : Fin 1000) (t : EReal)
    (ht : (V (Proc.devRef .tc main_values_8) : FVec Ideal S4x1000 .f32) (ix2 n i) = t) :
    (rest V (Proc.devRef .tc main_v62) : FVec Ideal S4x1000 .f32) (ix2 n i) = if Ideal.ofBits .f32 0xCCBEBC20#32 < t then t else (0 : EReal) := by
  have e : (id (constant S_ .f32 0#32 : FVec Ideal S_ .f32)) ix0 = (0 : EReal) := by
    show (constant S_ .f32 0#32 : FVec Ideal S_ .f32) ix0 = (0 : EReal)
    pointwise
  unfold rest
  after_reads_at
  rw [ht, e]

/-- A result's box, from the selected score `t` and its position `p`. -/
theorem k_rest_boxes (n : Fin 4) (i : Fin 1000) (k : Fin 4) (t : EReal) (p : Fin 2000)
    (ht : (V (Proc.devRef .tc main_values_8) : FVec Ideal S4x1000 .f32) (ix2 n i) = t)
    (h : (V (Proc.devRef .tc main_v56) : IVec S4x1000x1 32) (ix3 n i 0) = BitVec.ofNat 32 p.val) (B : EReal)
    (hB : (V (Proc.devRef .tc main_v55) : FVec Ideal S4x2000x4 .f32) (ix3 n p k) = B) :
    (rest V (Proc.devRef .tc main_v61) : FVec Ideal S4x1000x4 .f32) (ix3 n i k) = if Ideal.ofBits .f32 0xCCBEBC20#32 < t then B else (0 : EReal) := by
  have e : (id (constant S_ .f32 0#32 : FVec Ideal S_ .f32)) ix0 = (0 : EReal) := by
    show (constant S_ .f32 0#32 : FVec Ideal S_ .f32) ix0 = (0 : EReal)
    pointwise
  unfold rest
  after_reads_at
  rw [ht, e]
  refine if_congr Iff.rfl ?_ rfl
  refine (fill_eq (fun x => (V (Proc.tc.devRef main_v56) : IVec S4x1000x1 32) (ix3 n i x)) p.val 2000 p.isLt (by decide) h _ _).trans ?_
  refine (gather_kept _ _ n i k p ?_).trans hB
  pointwise
  erw [h]
  exact wrap_eq p.val 2000 p.isLt (by decide)

variable (hs : ∀ n (i : Fin 2000), (V (Proc.devRef .tc main_v51_0) : FVec Ideal S4x1x2048 .f32) (ix3 n 0 ⟨i.val, by omega⟩) = s n i)
  (hb : ∀ n (i : Fin 2000) k, (V (Proc.devRef .tc main_v51_1) : FVec Ideal S4x4x2048 .f32) (ix3 n k ⟨i.val, by omega⟩) = b n i k)

include hs in
/-- The kernel's scores. -/
theorem k_res_scores (n : Fin 4) (i : Fin 1000) :
    (rest (after hostOps1 V) (Proc.devRef .tc main_v62) : FVec Ideal S4x1000 .f32) (ix2 n i) = resScores s n i :=
  k_rest_scores _ n i _ (k_sel_val V s hs n i)

include hs hb in
/-- The kernel's boxes. -/
theorem k_res_boxes (n : Fin 4) (i : Fin 1000) (k : Fin 4) :
    (rest (after hostOps1 V) (Proc.devRef .tc main_v61) : FVec Ideal S4x1000x4 .f32) (ix3 n i k) = resBoxes s b n i k :=
  k_rest_boxes _ n i k _ _ (k_sel_val V s hs n i) (k_sel_idx V s hs n i) _ ((k_boxes V n _ k).trans (hb n _ k))

end Cert.Spec

end
-- ==== Proof.Value.KFinal.lean ====
/-
  The kernel's run: its results are the 1000 best of the kept scores and their boxes.
-/
module

public import proofs.«01_k».proof.Proof.Value.Output
public import proofs.«01_k».proof.Proof.Value.KSuffix

@[expose] public section

set_option maxRecDepth 16384

noncomputable section

namespace Cert.Spec

open Idealize.ShloMosaic Idealize.ShloMosaic.TcCoe Idealize.ShloMosaic.StableHlo
open Idealize.SL.Sem
open Cert.KernelIdeal Cert.KernelIdeal.Gen Cert.KernelIdeal.Body
open Cert.Nms

variable (m : (ℓ : Loc nD τ sig) → Buf (Elt Ideal) ℓ) (ρ : Dev nD → PrngReg) (c : Dev nD)

/-- What every buffer holds once the call is over. -/
def called : Valuation τ sig (Elt Ideal) := Pipeline.withArrays (cfgs 0).spec c (V0 m c) fun w => (dats m 0 c).arrAt w (cfgs 0).N

/-- The call leaves the array of scores … -/
theorem called_scores : called m c (Proc.devRef .tc main_v51_0) = outScores m c :=
  (Pipeline.withArrays_arr (cfgs 0).spec launch0.win.arr_inj c (V0 m c) (fun w => (dats m 0 c).arrAt w (cfgs 0).N) 5).trans (final5 m c)

/-- … and the array of corners. -/
theorem called_boxes : called m c (Proc.devRef .tc main_v51_1) = outBoxes m c :=
  (Pipeline.withArrays_arr (cfgs 0).spec launch0.win.arr_inj c (V0 m c) (fun w => (dats m 0 c).arrAt w (cfgs 0).N) 6).trans (final6 m c)

/-- The first 2000 scores of an image are those that the specification keeps. -/
theorem k_kept (n : Fin 4) (i : Fin 2000) : (called m c (Proc.devRef .tc main_v51_0) : FVec Ideal S4x1x2048 .f32) (ix3 n 0 ⟨i.val, by omega⟩)
    = keptAt (arg0 m c) (arg1 m c) (arg2 m c) n i.val := by
  rw [called_scores]
  exact masked_of_le (boxes m c n) 2048 i.val (by omega) _

/-- The first 2000 boxes of an image are its decoded boxes. -/
theorem k_corner (n : Fin 4) (i : Fin 2000) (k : Fin 4) : (called m c (Proc.devRef .tc main_v51_1) : FVec Ideal S4x4x2048 .f32) (ix3 n k ⟨i.val, by omega⟩)
    = (boxAt (arg0 m c) (arg1 m c) (arg2 m c) n i.val).corner k := by
  rw [called_boxes]
  rfl

/-- What a buffer holds at the end: the lines after the call, from what the call leaves. -/
theorem after_call (b : Ref sig .tc) :
    Pipeline.afterTail₀ cfgs (dats m) 0 (V0 m) [hostOps1, hostOps1_1, hostOps1_2, hostOps1_3, hostOps1_4, hostOps1_5] c b
      = rest (after hostOps1 (called m c)) (Proc.devRef .tc b) := by
  unfold Pipeline.afterTail₀ rest called
  simp only [List.flatten_cons, List.flatten_nil, List.append_nil, after_append]

/-- The first result is `allBoxes` of the arguments … -/
theorem k_out_boxes : (rest (after hostOps1 (called m c)) (Proc.devRef .tc main_v61) : FVec Ideal S4x1000x4 .f32)
    = allBoxes (arg0 m c) (arg1 m c) (arg2 m c) := by
  funext j
  rw [eq_ix3 j]
  exact k_res_boxes (called m c) _ _ (k_kept m c) (k_corner m c) (j 0) (j 1) (j 2)

/-- … and the second is `allScores` of them. -/
theorem k_out_scores : (rest (after hostOps1 (called m c)) (Proc.devRef .tc main_v62) : FVec Ideal S4x1000 .f32)
    = allScores (arg0 m c) (arg1 m c) (arg2 m c) := by
  funext j
  rw [eq_ix2 j]
  exact k_res_scores (called m c) _ (k_kept m c) (j 0) (j 1)

/-- Every run of the kernel ends with these results, its arguments as they were. -/
theorem k_run : θ_run (defs (F := Ideal)) (onTc (τ := τ) (main (F := Ideal))) ⟨m, fun _ => 0, ρ⟩ (fun r => ∀ c : Dev nD,
      r.2.mem ((c.tc : Thread nD τ).loc main_v61) = allBoxes (arg0 m c) (arg1 m c) (arg2 m c)
      ∧ r.2.mem ((c.tc : Thread nD τ).loc main_v62) = allScores (arg0 m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.2 c).2 main_v61 (Pipeline.mem_restRefs_of main_v61 (by decide) (by decide))).trans ((after_call m c main_v61).trans (k_out_boxes m c)),
      ((h.2 c).2 main_v62 (Pipeline.mem_restRefs_of main_v62 (by decide) (by decide))).trans ((after_call m c main_v62).trans (k_out_scores m c)), h.1 c⟩)
    (θ_run_and (unchanged m ρ) (run_main m ρ))

end Cert.Spec

end
-- ==== Proof.Value.RHost.lean ====
/-
  The reference's lines before the decoding: the scores of all the anchors, the 2000 best of each image, and the
  regressions and anchors taken at their positions.
-/
module

public import proofs.«01_k».proof.Proof.Value.Spec
public import proofs.«01_k».proof.Proof.RI.Frame
public import Idealize.ShloMosaic.Lib.StableHlo.ReadAt

@[expose] public section

set_option maxRecDepth 16384

noncomputable section

namespace Cert.Spec

open Idealize.ShloMosaic Idealize.ShloMosaic.TcCoe Idealize.ShloMosaic.StableHlo
open Cert.ReferenceIdeal Cert.ReferenceIdeal.Gen

variable (V : Valuation τ sig (Elt Ideal))

/-- The scores of an image in the flat order. -/
theorem r_score (n : Fin 4) (f : Fin 147456) : (after hostOps0 V (Proc.devRef .tc main_v7) : FVec Ideal S4x147456 .f32) (ix2 n f)
    = score (V (Proc.devRef .tc main_arg1)) n f := by
  after_reads_at
  rfl

/-- The regressions of an image in the flat order. -/
theorem r_rel (n : Fin 4) (f : Fin 147456) (k : Fin 4) : (after hostOps0 V (Proc.devRef .tc main_v10) : FVec Ideal S4x147456x4 .f32) (ix3 n f k)
    = rel (V (Proc.devRef .tc main_arg2)) n f k := by
  after_reads_at
  rfl

/-- The scores of the best candidates, … -/
theorem r_top (n : Fin 4) (i : Fin 2000) : (after hostOps0 V (Proc.devRef .tc main_values) : FVec Ideal S4x2000 .f32) (ix2 n i)
    = score (V (Proc.devRef .tc main_arg1)) n (pos (V (Proc.devRef .tc main_arg1)) n i) := by
  have e : (after hostOps0 V (Proc.devRef .tc main_values) : FVec Ideal S4x2000 .f32)
      = (Host.topK ⟨2, ![4, 2000]⟩ 1 gt (after hostOps0 V (Proc.devRef .tc main_v7) : FVec Ideal S4x147456 .f32)
        sliceFits_S4x147456_S4x2000).1 := by
    after_reads_simp
  rw [e]
  exact topk_val_of _ _ n _ (r_score V n) i

/-- … and their positions. -/
theorem r_pos (n : Fin 4) (i : Fin 2000) : (after hostOps0 V (Proc.devRef .tc main_v11) : IVec S4x2000x1 32) (ix3 n i 0)
    = BitVec.ofNat 32 (pos (V (Proc.devRef .tc main_arg1)) n i).val := by
  have e : (after hostOps0 V (Proc.devRef .tc main_v11) : IVec S4x2000x1 32)
      = broadcastInDim S4x2000x1 ![0, 1] bcast_S4x2000_S4x2000x1_0_1
        (Host.topK ⟨2, ![4, 2000]⟩ 1 gt (after hostOps0 V (Proc.devRef .tc main_v7) : FVec Ideal S4x147456 .f32)
        sliceFits_S4x147456_S4x2000).2 := by
    after_reads_simp
  rw [e]
  pointwise
  exact topk_idx_of _ _ n _ (r_score V n) i

/-- The positions again, for the anchors. -/
theorem r_pos' (n : Fin 4) (i : Fin 2000) : (after hostOps0_2 (after hostOps0_1 (after hostOps0 V)) (Proc.devRef .tc main_v13) : IVec S4x2000x1 32) (ix3 n i 0)
    = BitVec.ofNat 32 (pos (V (Proc.devRef .tc main_arg1)) n i).val := by
  have e : (after hostOps0_2 (after hostOps0_1 (after hostOps0 V)) (Proc.devRef .tc main_v13) : IVec S4x2000x1 32)
      = after hostOps0 V (Proc.devRef .tc main_v11) := by
    after_reads_simp
  rw [e]
  exact r_pos V n i

/-- A take of the rows of the regressions … -/
theorem r_take (n : Fin 4) (i : Fin 2000) (k : Fin 4) (p : Fin 147456)
    (h : (V (Proc.devRef .tc main_v11) : IVec S4x2000x1 32) (ix3 n i 0) = BitVec.ofNat 32 p.val) :
    (after hostOps0_1 V (Proc.devRef .tc main_v12) : FVec Ideal S4x2000x4 .f32) (ix3 n i k)
      = (V (Proc.devRef .tc main_v10) : FVec Ideal S4x147456x4 .f32) (ix3 n p k) := by
  after_reads_at
  refine (fill_eq (fun x => (V (Proc.devRef .tc main_v11) : IVec S4x2000x1 32) (ix3 n i x)) p.val 147456 p.isLt (by decide) h _ _).trans ?_
  refine gather_rows _ _ n i k p ?_
  pointwise
  erw [h]
  exact wrap_eq p.val 147456 p.isLt (by decide)

/-- … and of the anchors. -/
theorem r_take' (n : Fin 4) (i : Fin 2000) (k : Fin 4) (p : Fin 147456)
    (h : (V (Proc.devRef .tc main_v13) : IVec S4x2000x1 32) (ix3 n i 0) = BitVec.ofNat 32 p.val) :
    (after hostOps0_3 V (Proc.devRef .tc main_v14) : FVec Ideal S4x2000x4 .f32) (ix3 n i k)
      = (V (Proc.devRef .tc main_arg0) : FVec Ideal S4x147456x4 .f32) (ix3 n p k) := by
  after_reads_at
  refine (fill_eq (fun x => (V (Proc.devRef .tc main_v13) : IVec S4x2000x1 32) (ix3 n i x)) p.val 147456 p.isLt (by decide) h _ _).trans ?_
  refine gather_rows _ _ n i k p ?_
  pointwise
  erw [h]
  exact wrap_eq p.val 147456 p.isLt (by decide)

/-- The lines before the decoding. -/
def gathered : Valuation τ sig (Elt Ideal) := after hostOps0_3 (after hostOps0_2 (after hostOps0_1 (after hostOps0 V)))

/-- The scores selected … -/
theorem gathered_top (n : Fin 4) (i : Fin 2000) : (gathered V (Proc.devRef .tc main_values) : FVec Ideal S4x2000 .f32) (ix2 n i)
    = topAt (V (Proc.devRef .tc main_arg1)) n i.val := by
  have e : gathered V (Proc.devRef .tc main_values) = after hostOps0 V (Proc.devRef .tc main_values) := by
    unfold gathered
    after_reads_simp
  rw [e]
  refine (r_top V n i).trans ?_
  unfold topAt
  rw [dif_pos i.isLt]

/-- … their regressions … -/
theorem gathered_rel (n : Fin 4) (i : Fin 2000) (k : Fin 4) : (gathered V (Proc.devRef .tc main_v12) : FVec Ideal S4x2000x4 .f32) (ix3 n i k)
    = relAt (V (Proc.devRef .tc main_arg2)) (V (Proc.devRef .tc main_arg1)) n i.val k := by
  have e : gathered V (Proc.devRef .tc main_v12) = after hostOps0_1 (after hostOps0 V) (Proc.devRef .tc main_v12) := by
    unfold gathered
    after_reads_simp
  rw [e]
  refine ((r_take _ n i k _ (r_pos V n i)).trans (r_rel V n _ k)).trans ?_
  unfold relAt
  rw [dif_pos i.isLt]

/-- … and their anchors. -/
theorem gathered_anc (n : Fin 4) (i : Fin 2000) (k : Fin 4) : (gathered V (Proc.devRef .tc main_v14) : FVec Ideal S4x2000x4 .f32) (ix3 n i k)
    = ancAt (V (Proc.devRef .tc main_arg0)) (V (Proc.devRef .tc main_arg1)) n i.val k := by
  have e : after hostOps0_2 (after hostOps0_1 (after hostOps0 V)) (Proc.devRef .tc main_arg0) = V (Proc.devRef .tc main_arg0) := by
    after_reads_simp
  refine (r_take' _ n i k _ (r_pos' V n i)).trans ?_
  rw [e]
  unfold ancAt
  rw [dif_pos i.isLt]

end Cert.Spec

end
-- ==== Proof.Value.RDecode.lean ====
/-
  The reference's decoding: the boxes' corners, the boxes, and the scores where the sides are not negative.
-/
module

public import proofs.«01_k».proof.Proof.Value.Decode
public import proofs.«01_k».proof.Proof.RI.Frame
public import Idealize.ShloMosaic.Lib.StableHlo.ReadAt

@[expose] public section

set_option maxRecDepth 16384

noncomputable section

namespace Cert.Spec

open Idealize.ShloMosaic Idealize.ShloMosaic.TcCoe Idealize.ShloMosaic.StableHlo
open Cert.ReferenceIdeal Cert.ReferenceIdeal.Gen
open Cert.Nms (Box boxOf lowerE upperE clipE ctrE extE sideE)

variable (V : Valuation τ sig (Elt Ideal))

/-- A constant scalar, read. -/
theorem word_id (w : BitVec 32) : (id (constant S_ .f32 w : FVec Ideal S_ .f32)) ix0 = Ideal.ofBits .f32 w := by
  show (constant S_ .f32 w : FVec Ideal S_ .f32) ix0 = _
  pointwise

/-- The word of zero. -/
theorem zero_word : Ideal.ofBits .f32 0#32 = 0 := by
  simp [Ideal.ofBits, Ideal.ieee]

/-- The lines that decode the corners. -/
def cornered : Valuation τ sig (Elt Ideal) := after hostOps0_11 (after hostOps0_10 (after hostOps0_9 (after hostOps0_8
  (after hostOps0_7 (after hostOps0_6 (after hostOps0_5 (after hostOps0_4 V)))))))

variable (a r : Fin 4 → EReal) (n : Fin 4) (i : Fin 2000)
  (ha : ∀ k, (V (Proc.devRef .tc main_v14) : FVec Ideal S4x2000x4 .f32) (ix3 n i k) = a k)
  (hr : ∀ k, (V (Proc.devRef .tc main_v12) : FVec Ideal S4x2000x4 .f32) (ix3 n i k) = r k)

include ha hr

/-- The corners of a candidate's box, from its anchor and its regression. -/
theorem r_x1 : (cornered V (Proc.devRef .tc main_v62) : FVec Ideal S4x2000 .f32) (ix2 n i) = (boxOf a r).x1 := by
  unfold cornered
  after_reads_at
  rw [word_id, word_id, zero_word]
  simp only [ha, hr]
  rfl

/-- The upper edge of the box. -/
theorem r_y1 : (cornered V (Proc.devRef .tc main_v66) : FVec Ideal S4x2000 .f32) (ix2 n i) = (boxOf a r).y1 := by
  unfold cornered
  after_reads_at
  rw [word_id, word_id, zero_word]
  simp only [ha, hr]
  rfl

/-- Its right edge. -/
theorem r_x2 : (cornered V (Proc.devRef .tc main_v72) : FVec Ideal S4x2000 .f32) (ix2 n i) = (boxOf a r).x2 := by
  unfold cornered
  after_reads_at
  rw [word_id, word_id, zero_word]
  simp only [ha, hr]
  rfl

/-- Its lower edge. -/
theorem r_y2 : (cornered V (Proc.devRef .tc main_v78) : FVec Ideal S4x2000 .f32) (ix2 n i) = (boxOf a r).y2 := by
  unfold cornered
  after_reads_at
  rw [word_id, word_id, zero_word]
  simp only [ha, hr]
  rfl

omit ha hr

/-- The lines that put the boxes together and mask the scores. -/
def screened : Valuation τ sig (Elt Ideal) := after hostOps0_13 (after hostOps0_12 V)

section
variable (b : Nat → Box) (h1 : ∀ i : Fin 2000, (V (Proc.devRef .tc main_v62) : FVec Ideal S4x2000 .f32) (ix2 n i) = (b i).x1)
  (h2 : ∀ i : Fin 2000, (V (Proc.devRef .tc main_v66) : FVec Ideal S4x2000 .f32) (ix2 n i) = (b i).y1)
  (h3 : ∀ i : Fin 2000, (V (Proc.devRef .tc main_v72) : FVec Ideal S4x2000 .f32) (ix2 n i) = (b i).x2)
  (h4 : ∀ i : Fin 2000, (V (Proc.devRef .tc main_v78) : FVec Ideal S4x2000 .f32) (ix2 n i) = (b i).y2)
  (h5 : ∀ i, (b i).ar = sideE (b i).x1 (b i).x2 * sideE (b i).y1 (b i).y2)

include h1 h2 h3 h4

/-- The boxes, corner by corner. -/
theorem r_corner (k : Fin 4) : (screened V (Proc.devRef .tc main_v83) : FVec Ideal S4x2000x4 .f32) (ix3 n i k) = (b i).corner k := by
  have e : (screened V (Proc.devRef .tc main_v83) : FVec Ideal S4x2000x4 .f32) (ix3 n i k)
      = ![(V (Proc.devRef .tc main_v62) : FVec Ideal S4x2000 .f32) (ix2 n i), (V (Proc.devRef .tc main_v66) : FVec Ideal S4x2000 .f32) (ix2 n i),
        (V (Proc.devRef .tc main_v72) : FVec Ideal S4x2000 .f32) (ix2 n i), (V (Proc.devRef .tc main_v78) : FVec Ideal S4x2000 .f32) (ix2 n i)] k := by
    unfold screened
    fin_cases k
    · after_reads_at
      erw [unary_result, upto_unwritten [] rfl (by decide)]
      pointwise
    · after_reads_at
      erw [unary_result, upto_unwritten [main_v79] rfl (by decide)]
      pointwise
    · after_reads_at
      erw [unary_result, upto_unwritten [main_v79, main_v80] rfl (by decide)]
      pointwise
    · after_reads_at
      erw [unary_result, upto_unwritten [main_v79, main_v80, main_v81] rfl (by decide)]
      pointwise
  rw [e, h1, h2, h3, h4]
  fin_cases k <;> rfl

open scoped Classical in
/-- The scores of the boxes whose sides are not negative, the word of −10⁹ for the others. -/
theorem r_screened : (screened V (Proc.devRef .tc main_v95) : FVec Ideal S4x2000 .f32) (ix2 n i)
      = if (b i).Proper then (V (Proc.devRef .tc main_values) : FVec Ideal S4x2000 .f32) (ix2 n i)
        else Ideal.ofBits .f32 0xCE6E6B28#32 := by
  unfold screened
  after_reads_at
  rw [word_id]
  refine Cert.Nms.select_dec ?_ _ _
  rw [IntOp.andi_eq_one, Cert.Nms.ofBool_one_iff, Cert.Nms.ofBool_one_iff, decide_eq_true_eq, decide_eq_true_eq, h1, h2, h3, h4]
  rfl

include h5 in
/-- The overlap of two boxes over their union. -/
theorem r_iou (j : Fin 2000) : (after hostOps0_14 V (Proc.devRef .tc main_v143_0) : FVec Ideal S4x2000x2000 .f32) (ix3 n i j)
    = Ideal.div ((b i).shared (b j)) ((b i).ar + (b j).ar - (b i).shared (b j)) := by
  have e : after hostOps0_14 V (Proc.devRef .tc main_v143_0) = after hostOps0_14 V (Proc.devRef .tc main_v140) := by
    after_reads_simp
    rfl
  rw [e]
  after_reads_at
  simp only [h1, h2, h3, h4, h5]
  rfl
end

/-- The flags, the lanes and the counter at the loop's entry. -/
theorem r_init (j : Fin 2000) : (after hostOps0_14 V (Proc.devRef .tc main_v143_4) : IVec S4x2000 1) (ix2 n i) = 1#1 := by
  after_reads_simp
  show (broadcastInDim S4x2000 ![] bcast_S_S4x2000 (constantI S_ 1 1#1)) (ix2 n i) = 1#1
  pointwise

/-- The loop's lanes count up from zero. -/
theorem r_lane : (after hostOps0_14 V (Proc.devRef .tc main_v143_1) : IVec S2000 32) (ix1 i) = BitVec.ofNat 32 i.val := by
  after_reads_simp
  show (iotaInDim S2000 32 0) (ix1 i) = _
  pointwise

/-- The loop's counter starts at zero. -/
theorem r_counter : (after hostOps0_14 V (Proc.devRef .tc main_v143_3) : IVec S_ 32) = fun _ => 0#32 := by
  after_reads_simp
  rfl

end Cert.Spec

end
-- ==== Proof.Value.RLoop.lean ====
/-
  The reference's loop: after `k` trips the flags say which candidates the first `k` leave.
-/
module

public import proofs.«01_k».proof.Proof.Value.Spec
public import proofs.«01_k».proof.Proof.Value.Decode
public import proofs.«01_k».proof.Proof.RI.Frame
public import Idealize.ShloMosaic.Lib.StableHlo.ReadAt

@[expose] public section

set_option maxRecDepth 16384

noncomputable section

namespace Cert.Spec

open Idealize.ShloMosaic Idealize.ShloMosaic.TcCoe Idealize.ShloMosaic.StableHlo
open Cert.ReferenceIdeal Cert.ReferenceIdeal.Gen Cert.ReferenceIdeal.Value
open Cert.Nms (Box Left)

/-- The counter, taken as a start: it is not negative, so it is taken as it is. -/
theorem counter_val (k : Fin 2000) :
    (Scalar.select (IntOp.cmpi .slt (BitVec.ofNat 32 k.val) 0#32) (IntOp.addi (BitVec.ofNat 32 k.val) 2000#32) (BitVec.ofNat 32 k.val)).toInt
      = (k.val : Int) := by
  rw [show (2000#32 : BitVec 32) = BitVec.ofNat 32 2000 from rfl, wrap_eq k.val 2000 k.isLt (by decide), toInt_ofNat _ (by omega)]

/-- An entry of the overlaps, its row and column given by starts that are known. -/
theorem read_row {α : Type} (x : S4x2000x2000.Idx → α) (c0 c1 c2 : Nat) (n : Fin 4) (k j : Fin 2000) (h0 : c0 = 0) (h1 : c1 = k.val)
    (h2 : c2 = 0) (p0 p1 p2) : x (ix3 ⟨c0 + n.val, p0⟩ ⟨c1, p1⟩ ⟨c2 + j.val, p2⟩) = x (ix3 n k j) := by
  subst h0 h1 h2
  simp only [Nat.zero_add]

/-- A flag, likewise. -/
theorem read_flag {α : Type} (x : S4x2000.Idx → α) (c0 c1 : Nat) (n : Fin 4) (k : Fin 2000) (h0 : c0 = 0) (h1 : c1 = k.val)
    (p0 p1) : x (ix2 ⟨c0 + n.val, p0⟩ ⟨c1, p1⟩) = x (ix2 n k) := by
  subst h0 h1
  simp only [Nat.zero_add]

/-- The complement of a bit. -/
theorem not_word (x : BitVec 1) : ~~~x = 1#1 ↔ ¬x = 1#1 := by
  revert x
  decide

variable (V : Valuation τ sig (Elt Ideal)) (b : Fin 4 → Nat → Box)

/-- What the loop's buffers hold after `k` trips. -/
structure After (k : Nat) : Prop where
  over n (i j : Fin 2000) : (V (Proc.devRef .tc main_v143_0) : FVec Ideal S4x2000x2000 .f32) (ix3 n i j)
    = Ideal.div ((b n i).shared (b n j)) ((b n i).ar + (b n j).ar - (b n i).shared (b n j))
  lane (i : Fin 2000) : (V (Proc.devRef .tc main_v143_1) : IVec S2000 32) (ix1 i) = BitVec.ofNat 32 i.val
  counter : (V (Proc.devRef .tc main_v143_3) : IVec S_ 32) = fun _ => BitVec.ofNat 32 k
  kept n (j : Fin 2000) : (V (Proc.devRef .tc main_v143_4) : IVec S4x2000 1) (ix2 n j) = 1#1 ↔ Left (b n) k j

variable {V b}

/-- The flags after one more trip say which boxes are left after one more box. -/
theorem flag_step (k : Fin 2000) (A : After V b k.val) (n : Fin 4) (j : Fin 2000) :
    (step_main_v143_4 V : IVec S4x2000 1) (ix2 n j) = 1#1 ↔ Left (b n) (k.val + 1) j := by
  unfold step_main_v143_4
  rw [A.counter]
  show (andi _ _ : IVec S4x2000 1) (ix2 n j) = 1#1 ↔ _
  pointwise
  rw [IntOp.andi_eq_one, not_word, IntOp.andi_eq_one, IntOp.andi_eq_one]
  refine and_congr (A.kept n j) (not_congr ?_)
  rw [and_right_comm]
  refine and_congr (and_congr ?_ ?_) ?_
  · rw [Cert.Nms.ofBool_one_iff, decide_eq_true_eq, Box.over_comm]
    refine iff_of_eq (congrArg (fun t : EReal => Ideal.ofBits .f32 0x3F333333#32 < t) (Eq.trans ?_ (A.over n k j)))
    refine read_row _ _ _ _ n k j ?_ ?_ ?_ _ _ _
    · exact Host.clampedStart_of_le _ _ _ 0 rfl (by decide)
    · exact Host.clampedStart_of_le _ _ _ k.val (counter_val k) (show k.val + 1 ≤ 2000 by omega)
    · exact Host.clampedStart_of_le _ _ _ 0 rfl (by decide)
  · rw [A.lane]
    exact Cert.Nms.word_lt_iff _ _ (by omega) (by omega)
  · refine Iff.trans (iff_of_eq (congrArg (· = 1#1) ?_)) (A.kept n k)
    refine read_flag _ _ _ n k ?_ ?_ _ _
    · exact Host.clampedStart_of_le _ _ _ 0 rfl (by decide)
    · exact Host.clampedStart_of_le _ _ _ k.val (counter_val k) (show k.val + 1 ≤ 2000 by omega)

/-- One trip. -/
theorem After.step (k : Fin 2000) (A : After V b k.val) : After (STEP V) b (k.val + 1) where
  over n i j := by
    rw [STEP_main_v143_0]
    exact A.over n i j
  lane i := by
    rw [STEP_main_v143_1]
    exact A.lane i
  counter := by
    rw [STEP_main_v143_3]
    unfold step_main_v143_3
    rw [A.counter]
    funext x
    show BitVec.ofNat 32 k.val + 1#32 = _
    rw [← BitVec.ofNat_add]
  kept n j := by
    rw [STEP_main_v143_4]
    exact flag_step k A n j

/-- All the trips, from the loop's entry. -/
theorem After.all (A : After V b 0) : ∀ k, k ≤ 2000 → After (STEP^[k] V) b k
  | 0, _ => A
  | k + 1, h => by
    rw [Function.iterate_succ_apply']
    exact After.step ⟨k, by omega⟩ (After.all A k (by omega))

/-- The same of contents that agree on the loop's buffers. -/
theorem After.congr {V' : Valuation τ sig (Elt Ideal)} {k : Nat} (h : Agree V' V) (A : After V b k) : After V' b k where
  over := by rw [h main_v143_0 (by decide)]; exact A.over
  lane := by rw [h main_v143_1 (by decide)]; exact A.lane
  counter := by rw [h main_v143_3 (by decide)]; exact A.counter
  kept := by rw [h main_v143_4 (by decide)]; exact A.kept

end Cert.Spec

end
-- ==== Proof.Value.RSuffix.lean ====
/-
  The reference's lines after its loop: the 1000 best of the scores kept, with their boxes.
-/
module

public import proofs.«01_k».proof.Proof.Value.Spec
public import proofs.«01_k».proof.Proof.RI.Frame
public import Idealize.ShloMosaic.Lib.StableHlo.ReadAt

@[expose] public section

set_option maxRecDepth 16384

noncomputable section

namespace Cert.Spec

open Idealize.ShloMosaic Idealize.ShloMosaic.TcCoe Idealize.ShloMosaic.StableHlo
open Cert.ReferenceIdeal Cert.ReferenceIdeal.Gen Cert.ReferenceIdeal.Value

variable (V : Valuation τ sig (Elt Ideal)) (s : Fin 4 → Fin 2000 → EReal) (b : Fin 4 → Fin 2000 → Fin 4 → EReal)

/-- The lines up to the selection, from the end of the loop. -/
def picked : Valuation τ sig (Elt Ideal) := after hostOps0_17 (after hostOps0_16 (after hostOps0_15 (after condOps V)))

/-- The lines after the selection. -/
def shown : Valuation τ sig (Elt Ideal) := after hostOps0_22 (after hostOps0_21 (after hostOps0_20 (after hostOps0_19 (after hostOps0_18 V))))

/-- The masked scores: the score where the loop's flag holds, the word of −10⁹ where not. -/
theorem r_masked (n : Fin 4) (i : Fin 2000) : (picked V (Proc.devRef .tc main_v144) : FVec Ideal S4x2000 .f32) (ix2 n i)
    = Scalar.select ((V (Proc.devRef .tc main_v143_4) : IVec S4x2000 1) (ix2 n i)) ((V (Proc.devRef .tc main_v95) : FVec Ideal S4x2000 .f32) (ix2 n i))
        (Ideal.ofBits .f32 0xCE6E6B28#32) := by
  have e : (id (constant S_ .f32 0xCE6E6B28#32 : FVec Ideal S_ .f32)) ix0 = Ideal.ofBits .f32 0xCE6E6B28#32 := by
    show (constant S_ .f32 0xCE6E6B28#32 : FVec Ideal S_ .f32) ix0 = _
    pointwise
  unfold picked
  after_reads_at
  rw [e]

/-- The selection leaves the boxes alone. -/
theorem r_boxes : picked V (Proc.devRef .tc main_v83) = V (Proc.devRef .tc main_v83) := by
  unfold picked
  after_reads_simp

/-- The scores selected, … -/
theorem r_sel_val (hs : ∀ n (i : Fin 2000), (picked V (Proc.devRef .tc main_v144) : FVec Ideal S4x2000 .f32) (ix2 n i) = s n i)
    (n : Fin 4) (i : Fin 1000) : (picked V (Proc.devRef .tc main_values_35) : FVec Ideal S4x1000 .f32) (ix2 n i) = s n (sel s n i) := by
  have e : (picked V (Proc.devRef .tc main_values_35) : FVec Ideal S4x1000 .f32)
      = (Host.topK ⟨2, ![4, 1000]⟩ 1 gt (picked V (Proc.devRef .tc main_v144) : FVec Ideal S4x2000 .f32)
        sliceFits_S4x2000_S4x1000).1 := by
    unfold picked
    after_reads_simp
  rw [e]
  exact topk1000_val_of _ _ n (s n) (fun f => hs n f) i

/-- … and their positions. -/
theorem r_sel_idx (hs : ∀ n (i : Fin 2000), (picked V (Proc.devRef .tc main_v144) : FVec Ideal S4x2000 .f32) (ix2 n i) = s n i)
    (n : Fin 4) (i : Fin 1000) : (picked V (Proc.devRef .tc main_v145) : IVec S4x1000x1 32) (ix3 n i 0) = BitVec.ofNat 32 (sel s n i).val := by
  have e : (picked V (Proc.devRef .tc main_v145) : IVec S4x1000x1 32)
      = broadcastInDim S4x1000x1 ![0, 1] bcast_S4x1000_S4x1000x1_0_1
        (Host.topK ⟨2, ![4, 1000]⟩ 1 gt (picked V (Proc.devRef .tc main_v144) : FVec Ideal S4x2000 .f32)
        sliceFits_S4x2000_S4x1000).2 := by
    unfold picked
    after_reads_simp
  rw [e]
  pointwise
  exact topk1000_idx_of _ _ n (s n) (fun f => hs n f) i

/-- A result's score, from the selected score `t`: zero where that does not pass the word of −10⁸. -/
theorem r_shown_scores (n : Fin 4) (i : Fin 1000) (t : EReal)
    (ht : (V (Proc.devRef .tc main_values_35) : FVec Ideal S4x1000 .f32) (ix2 n i) = t) :
    (shown V (Proc.devRef .tc main_v151) : FVec Ideal S4x1000 .f32) (ix2 n i) = if Ideal.ofBits .f32 0xCCBEBC20#32 < t then t else (0 : EReal) := by
  have e : (id (constant S_ .f32 0#32 : FVec Ideal S_ .f32)) ix0 = (0 : EReal) := by
    show (constant S_ .f32 0#32 : FVec Ideal S_ .f32) ix0 = (0 : EReal)
    pointwise
  unfold shown
  after_reads_at
  rw [ht, e]

/-- A result's box, from the selected score `t` and its position `p`. -/
theorem r_shown_boxes (n : Fin 4) (i : Fin 1000) (k : Fin 4) (t : EReal) (p : Fin 2000)
    (ht : (V (Proc.devRef .tc main_values_35) : FVec Ideal S4x1000 .f32) (ix2 n i) = t)
    (h : (V (Proc.devRef .tc main_v145) : IVec S4x1000x1 32) (ix3 n i 0) = BitVec.ofNat 32 p.val) (B : EReal)
    (hB : (V (Proc.devRef .tc main_v83) : FVec Ideal S4x2000x4 .f32) (ix3 n p k) = B) :
    (shown V (Proc.devRef .tc main_v150) : FVec Ideal S4x1000x4 .f32) (ix3 n i k) = if Ideal.ofBits .f32 0xCCBEBC20#32 < t then B else (0 : EReal) := by
  have e : (id (constant S_ .f32 0#32 : FVec Ideal S_ .f32)) ix0 = (0 : EReal) := by
    show (constant S_ .f32 0#32 : FVec Ideal S_ .f32) ix0 = (0 : EReal)
    pointwise
  unfold shown
  after_reads_at
  rw [ht, e]
  refine if_congr Iff.rfl ?_ rfl
  refine (fill_eq (fun x => (V (Proc.tc.devRef main_v145) : IVec S4x1000x1 32) (ix3 n i x)) p.val 2000 p.isLt (by decide) h _ _).trans ?_
  refine (gather_kept _ _ n i k p ?_).trans hB
  pointwise
  erw [h]
  exact wrap_eq p.val 2000 p.isLt (by decide)

section
variable (hs : ∀ n (i : Fin 2000), (picked V (Proc.devRef .tc main_v144) : FVec Ideal S4x2000 .f32) (ix2 n i) = s n i)
  (hb : ∀ n (i : Fin 2000) (k : Fin 4), (V (Proc.devRef .tc main_v83) : FVec Ideal S4x2000x4 .f32) (ix3 n i k) = b n i k)

include hs in
/-- The reference's scores. -/
theorem r_res_scores (n : Fin 4) (i : Fin 1000) :
    (shown (picked V) (Proc.devRef .tc main_v151) : FVec Ideal S4x1000 .f32) (ix2 n i) = resScores s n i :=
  r_shown_scores _ n i _ (r_sel_val V s hs n i)

include hs hb in
/-- The reference's boxes. -/
theorem r_res_boxes (n : Fin 4) (i : Fin 1000) (k : Fin 4) :
    (shown (picked V) (Proc.devRef .tc main_v150) : FVec Ideal S4x1000x4 .f32) (ix3 n i k) = resBoxes s b n i k :=
  r_shown_boxes _ n i k _ _ (r_sel_val V s hs n i) (r_sel_idx V s hs n i) _
    ((congrFun (r_boxes V) (ix3 n (sel s n i) k)).trans (hb n _ k))
end

end Cert.Spec

end
-- ==== Proof.Value.RFinal.lean ====
/-
  The reference's run: its results are the 1000 best of the kept scores and their boxes.
-/
module

public import proofs.«01_k».proof.Proof.Value.Result
public import proofs.«01_k».proof.Proof.Value.RHost
public import proofs.«01_k».proof.Proof.Value.RDecode
public import proofs.«01_k».proof.Proof.Value.RLoop
public import proofs.«01_k».proof.Proof.Value.RSuffix

@[expose] public section

set_option maxRecDepth 16384

noncomputable section

namespace Cert.Spec

open Idealize.ShloMosaic Idealize.ShloMosaic.TcCoe Idealize.ShloMosaic.StableHlo
open Idealize.SL.Sem
open Cert.ReferenceIdeal Cert.ReferenceIdeal.Gen Cert.ReferenceIdeal.Value Cert.ReferenceIdeal.Body
open Cert.Nms (Box boxOf maskedE Left)

section
variable (V : Valuation τ sig (Elt Ideal))

/-- The reference's arguments. -/
abbrev anchorsOf : FVec Ideal S4x147456x4 .f32 := V (Proc.devRef .tc main_arg0)
/-- The second argument: the objectness. -/
abbrev logitsOf : FVec Ideal S4x3x192x256 .f32 := V (Proc.devRef .tc main_arg1)
/-- The third argument: the box regression. -/
abbrev regressionOf : FVec Ideal S4x12x192x256 .f32 := V (Proc.devRef .tc main_arg2)

/-- The boxes the reference decodes. -/
abbrev boxesOf (n : Fin 4) (i : Nat) : Box := boxAt (anchorsOf V) (logitsOf V) (regressionOf V) n i

/-- The contents after the decoding, and at the loop's entry. -/
def ready : Valuation τ sig (Elt Ideal) := screened (cornered (gathered V))
/-- The contents at the loop's entry. -/
def entry : Valuation τ sig (Elt Ideal) := after hostOps0_14 (ready V)

/-- The lines before the loop, as one list, lead to `entry`. -/
theorem entry_eq : afterL preI V = entry V := by
  simp only [afterL_cons, afterL_nil]
  rfl

variable (n : Fin 4) (i : Fin 2000)

/-- The left edges of the boxes, from the arguments. -/
theorem corner_x1 : (cornered (gathered V) (Proc.devRef .tc main_v62) : FVec Ideal S4x2000 .f32) (ix2 n i) = (boxesOf V n i).x1 :=
  r_x1 _ _ _ n i (gathered_anc V n i) (gathered_rel V n i)

/-- Their upper edges. -/
theorem corner_y1 : (cornered (gathered V) (Proc.devRef .tc main_v66) : FVec Ideal S4x2000 .f32) (ix2 n i) = (boxesOf V n i).y1 :=
  r_y1 _ _ _ n i (gathered_anc V n i) (gathered_rel V n i)

/-- Their right edges. -/
theorem corner_x2 : (cornered (gathered V) (Proc.devRef .tc main_v72) : FVec Ideal S4x2000 .f32) (ix2 n i) = (boxesOf V n i).x2 :=
  r_x2 _ _ _ n i (gathered_anc V n i) (gathered_rel V n i)

/-- Their lower edges. -/
theorem corner_y2 : (cornered (gathered V) (Proc.devRef .tc main_v78) : FVec Ideal S4x2000 .f32) (ix2 n i) = (boxesOf V n i).y2 :=
  r_y2 _ _ _ n i (gathered_anc V n i) (gathered_rel V n i)

/-- Putting the boxes together leaves the corners alone. -/
theorem screened_keeps (W : Valuation τ sig (Elt Ideal)) {b : Ref sig .tc} (hb : b ∈ [main_v62, main_v66, main_v72, main_v78]) :
    screened W (Proc.devRef .tc b) = W (Proc.devRef .tc b) := by
  unfold screened
  fin_cases hb <;> after_reads_simp

/-- The decoding leaves the selected scores alone. -/
theorem cornered_top (W : Valuation τ sig (Elt Ideal)) :
    cornered W (Proc.devRef .tc main_values) = W (Proc.devRef .tc main_values) := by
  unfold cornered
  after_reads_simp

/-- The overlaps' computation leaves the boxes and the scores alone. -/
theorem entry_keeps (W : Valuation τ sig (Elt Ideal)) {b : Ref sig .tc} (hb : b ∈ [main_v83, main_v95]) :
    after hostOps0_14 W (Proc.devRef .tc b) = W (Proc.devRef .tc b) := by
  fin_cases hb <;> after_reads_simp

/-- At the loop's entry the boxes are the decoded ones. -/
theorem entry_corner (k : Fin 4) : (entry V (Proc.devRef .tc main_v83) : FVec Ideal S4x2000x4 .f32) (ix3 n i k) = (boxesOf V n i).corner k := by
  unfold entry ready
  rw [entry_keeps _ (by decide)]
  exact r_corner _ n i (boxesOf V n) (corner_x1 V n) (corner_y1 V n) (corner_x2 V n) (corner_y2 V n) k

open scoped Classical in
theorem entry_score : (entry V (Proc.devRef .tc main_v95) : FVec Ideal S4x2000 .f32) (ix2 n i)
    = if (boxesOf V n i).Proper then topAt (logitsOf V) n i.val else Ideal.ofBits .f32 0xCE6E6B28#32 := by
  unfold entry ready
  rw [entry_keeps _ (by decide)]
  refine (r_screened _ n i (boxesOf V n) (corner_x1 V n) (corner_y1 V n) (corner_x2 V n) (corner_y2 V n)).trans ?_
  rw [cornered_top]
  exact if_congr Iff.rfl (gathered_top V n i) rfl

/-- The loop's buffers at its entry. -/
theorem entry_after : After (entry V) (boxesOf V) 0 where
  over n i j := r_iou (ready V) n i (boxesOf V n)
    (fun i => by unfold ready; rw [screened_keeps _ (b := main_v62) (by decide)]; exact corner_x1 V n i)
    (fun i => by unfold ready; rw [screened_keeps _ (b := main_v66) (by decide)]; exact corner_y1 V n i)
    (fun i => by unfold ready; rw [screened_keeps _ (b := main_v72) (by decide)]; exact corner_x2 V n i)
    (fun i => by unfold ready; rw [screened_keeps _ (b := main_v78) (by decide)]; exact corner_y2 V n i) (fun _ => rfl) j
  lane i := r_lane (ready V) i
  counter := r_counter (ready V)
  kept n j := iff_of_true (r_init (ready V) n j j) trivial
end

variable (m : (ℓ : Loc nD τ sig) → Buf (Elt Ideal) ℓ) (ρ : Dev nD → PrngReg) (c : Dev nD)

/-- The memory at launch. -/
abbrev launched : Valuation τ sig (Elt Ideal) := fun b => m (c, b)

/-- What the loop's buffers hold after all its trips. -/
theorem atK_after : After (atK m 2000 c) (boxesOf (launched m c)) 2000 :=
  After.congr (atK_agree m c 2000) (After.all (by
    have := entry_after (launched m c)
    rw [← entry_eq] at this
    exact this) 2000 le_rfl)

/-- One trip leaves the boxes and the scores alone. -/
theorem trip_keeps' (W : Valuation τ sig (Elt Ideal)) {r : Ref sig .tc} (hr : r ∈ [main_v83, main_v95]) :
    afterL bodyI (after condOps W) (Proc.devRef .tc r) = W (Proc.devRef .tc r) := by
  simp only [afterL_cons, afterL_nil]
  fin_cases hr <;>
  rw [after_of_writes_sub _ _ while0Ops0_3_writes (by decide), after_of_writes_sub _ _ while0Ops0_2_writes (by decide),
    after_of_writes_sub _ _ while0Ops0_1_writes (by decide), after_of_writes_sub _ _ while0Ops0_writes (by decide),
    after_of_writes_sub _ _ condOps_writes (by decide)]

/-- The whole loop leaves the boxes and the scores alone. -/
theorem atK_keeps' {r : Ref sig .tc} (hr : r ∈ [main_v83, main_v95]) :
    ∀ k, atK m k c (Proc.devRef .tc r) = entry (launched m c) (Proc.devRef .tc r)
  | 0 => congrFun (entry_eq (launched m c)) _
  | k + 1 => (trip_keeps' (atK m k c) hr).trans (atK_keeps' hr k)

/-- The scores masked after the loop are those that the specification keeps. -/
theorem r_kept (n : Fin 4) (i : Fin 2000) : (picked (atK m 2000 c) (Proc.devRef .tc main_v144) : FVec Ideal S4x2000 .f32) (ix2 n i)
    = keptAt (anchorsOf (launched m c)) (logitsOf (launched m c)) (regressionOf (launched m c)) n i.val := by
  classical
  rw [r_masked, atK_keeps' m c (r := main_v95) (by decide), entry_score, @Cert.Nms.select_dec _ _ _ (Classical.propDecidable _) ((atK_after m c).kept n i)]
  refine Eq.trans ?_ (masked_of_le (boxesOf (launched m c) n) 2000 i.val (by omega) (topAt (logitsOf (launched m c)) n i.val))
  unfold maskedE
  by_cases hl : Left (boxesOf (launched m c) n) 2000 i.val <;> by_cases hp : (boxesOf (launched m c) n i.val).Proper <;> simp [hl, hp]

/-- The boxes after the loop are the decoded ones. -/
theorem r_box (n : Fin 4) (i : Fin 2000) (k : Fin 4) : (atK m 2000 c (Proc.devRef .tc main_v83) : FVec Ideal S4x2000x4 .f32) (ix3 n i k)
    = (boxesOf (launched m c) n i.val).corner k := by
  rw [atK_keeps' m c (by decide)]
  exact entry_corner _ n i k

/-- What memory holds at the end: the lines after the loop, from what the loop leaves. -/
theorem final_eq : finalContents condOps preI bodyI postI 2000 m c = shown (picked (atK m 2000 c)) := by
  show afterL postI (after condOps (atK m 2000 c)) = _
  simp only [afterL_cons, afterL_nil]
  rfl

/-- The first result is `allBoxes` of the arguments … -/
theorem r_out_boxes : (shown (picked (atK m 2000 c)) (Proc.devRef .tc main_v150) : FVec Ideal S4x1000x4 .f32)
    = allBoxes (anchorsOf (launched m c)) (logitsOf (launched m c)) (regressionOf (launched m c)) := by
  funext j
  rw [eq_ix3 j]
  exact r_res_boxes (atK m 2000 c) _ _ (r_kept m c) (r_box m c) (j 0) (j 1) (j 2)

/-- … and the second is `allScores` of them. -/
theorem r_out_scores : (shown (picked (atK m 2000 c)) (Proc.devRef .tc main_v151) : FVec Ideal S4x1000 .f32)
    = allScores (anchorsOf (launched m c)) (logitsOf (launched m c)) (regressionOf (launched m c)) := by
  funext j
  rw [eq_ix2 j]
  exact r_res_scores (atK m 2000 c) _ (r_kept m c) (j 0) (j 1)

/-- Every run of the reference ends with these results, its arguments as they were. -/
theorem r_run : θ_run (defs (F := Ideal)) (onTc (τ := τ) (main (F := Ideal))) ⟨m, fun _ => 0, ρ⟩ (fun r => ∀ c : Dev nD,
      r.2.mem ((c.tc : Thread nD τ).loc main_v150) = allBoxes (anchorsOf (launched m c)) (logitsOf (launched m c)) (regressionOf (launched m c))
      ∧ r.2.mem ((c.tc : Thread nD τ).loc main_v151) = allScores (anchorsOf (launched m c)) (logitsOf (launched m c)) (regressionOf (launched m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c main_v150 rfl).trans ((congrFun (final_eq m c) _).trans (r_out_boxes m c)),
      (h c main_v151 rfl).trans ((congrFun (final_eq m c) _).trans (r_out_scores m c)),
      (h c main_arg0 rfl).trans (final_keeps m c (by simp)), (h c main_arg1 rfl).trans (final_keeps m c (by simp)),
      (h c main_arg2 rfl).trans (final_keeps m c (by simp))⟩) (run_fold m ρ)

end Cert.Spec

end
-- ==== Proof.Value.Equal.lean ====
/-
  The two programs give the same results: both end with the same function of their arguments.
-/
module

public import proofs.«01_k».proof.Defs
public import proofs.«01_k».proof.Proof.Value.KFinal
public import proofs.«01_k».proof.Proof.Value.RFinal

@[expose] public section

set_option maxRecDepth 16384

noncomputable section

namespace Cert.Spec

open Idealize.ShloMosaic Idealize.ShloMosaic.TcCoe Idealize.SL.Sem

/-- On the same arguments the kernel's results, as real numbers extended by the infinities, are the reference's. -/
theorem equal : Cert.algebraic_KernelIdeal_ReferenceIdeal (hKernelIdeal := Cert.KernelIdeal.Gen.facts)
    (hReferenceIdeal := Cert.ReferenceIdeal.Gen.facts) := by
  intro m g m' g' _ hargs
  refine ⟨fun c => allBoxes (arg0 m c) (arg1 m c) (arg2 m c), fun c => allScores (arg0 m c) (arg1 m c) (arg2 m c), k_run m g, ?_⟩
  refine (θ_run _ _ _).mono (fun r h c => ?_) (r_run m' g')
  obtain ⟨hb, hs, ha⟩ := h c
  have e0 : anchorsOf (launched m' c) = arg0 m c := (hargs c).1
  have e1 : logitsOf (launched m' c) = arg1 m c := (hargs c).2.1
  have e2 : regressionOf (launched m' c) = arg2 m c := (hargs c).2.2
  rw [e0, e1, e2] at hb hs
  exact ⟨hb, hs, ha⟩

end Cert.Spec

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.K.Frame
public import proofs.«01_k».proof.Proof.KI.Frame
public import proofs.«01_k».proof.Proof.RI.Frame
public import proofs.«01_k».proof.Proof.Value.Equal

@[expose] public section

noncomputable section

namespace Cert.Proof

open Idealize.ShloMosaic Idealize.SL.Sem

/-- `Cert.Claim` (Defs.lean), its parts in order. -/
theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ,
  fun m ρ _ => Cert.ReferenceIdeal.Body.frame m ρ, trivial, Cert.Spec.equal⟩

end Cert.Proof

end
